-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S2x2x256x2048 : Shape := ⟨4, ![2, 2, 256, 2048]⟩
abbrev S2x2 : Shape := ⟨2, ![2, 2]⟩
abbrev S_ : Shape := ⟨0, ![]⟩
abbrev S256x256 : Shape := ⟨2, ![256, 256]⟩
abbrev S256x2048 : Shape := ⟨2, ![256, 2048]⟩
abbrev S1x1x256x2048 : Shape := ⟨4, ![1, 1, 256, 2048]⟩
abbrev S1x1 : Shape := ⟨2, ![1, 1]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .i8⟩
  | .hbm, ⟨1, _⟩ => ⟨S256x8192, .i8⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .i8⟩
  | .local _ .vmem, ⟨1, _⟩ => ⟨S256x8192, .i8⟩
  | .local _ .vmem, ⟨2, _⟩ => ⟨S256x8192, .f32⟩
  | .local _ .vmem, ⟨3, _⟩ => ⟨S2x2x256x2048, .i32⟩
  | .local _ .vmem, ⟨4, _⟩ => ⟨S2x2x256x2048, .i32⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 3 21 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_20 : BitVec 32 := 2#32
  let v33 : BitVec 32 := Scalar.subi v2 c2_i32_20
  let v34 : BitVec 32 := Scalar.subi v33 c_m1_i32
  let c16_i32_21 : BitVec 32 := 16#32
  let c0_i32_22 : BitVec 32 := 0#32
  let v35 : BitVec 1 := Scalar.cmpi .eq c16_i32_21 c0_i32_22
  let c1_i32_23 : BitVec 32 := 1#32
  let v36 : BitVec 32 := Scalar.select v35 c1_i32_23 c16_i32_21
  let v37 : BitVec 32 := Scalar.remsi v34 v36
  let c0_i32_25 : BitVec 32 := 0#32
  let v39 : BitVec 1 := Scalar.cmpi .slt v37 c0_i32_25
  let c0_i32_26 : BitVec 32 := 0#32
  let v40 : BitVec 1 := Scalar.cmpi .slt v36 c0_i32_26
  let v41 : BitVec 1 := Scalar.xori v39 v40
  let c0_i32_24 : BitVec 32 := 0#32
  let v38 : BitVec 1 := Scalar.cmpi .ne v37 c0_i32_24
  let v42 : BitVec 1 := Scalar.andi v41 v38
  let v43 : BitVec 32 := Scalar.addi v37 v36
  let v44 : BitVec 32 := Scalar.select v42 v43 v37
  let c256_i32 : BitVec 32 := 256#32
  let v45 : BitVec 32 := Scalar.muli v44 c256_i32
  let v46 : Index := Scalar.indexCast v45
  let c0_27 : Index := 0#32
  ![v46.toNat, 0]
def k0_off1_at (r : Fin 16) : BitVec 32 :=
  if r.val < 8 then
    if r.val < 4 then
      if r.val < 2 then
        if r.val < 1 then
          4294967295#32
        else
          0#32
      else
        if r.val < 3 then
          1#32
        else
          2#32
    else
      if r.val < 6 then
        if r.val < 5 then
          3#32
        else
          4#32
      else
        if r.val < 7 then
          5#32
        else
          6#32
  else
    if r.val < 12 then
      if r.val < 10 then
        if r.val < 9 then
          7#32
        else
          8#32
      else
        if r.val < 11 then
          9#32
        else
          10#32
    else
      if r.val < 14 then
        if r.val < 13 then
          11#32
        else
          12#32
      else
        if r.val < 15 then
          13#32
        else
          14#32
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_42 : BitVec 32 := 1#32
  let v55 : BitVec 32 := Scalar.muli v13 c1_i32_42
  let v56 : BitVec 32 := Scalar.addi c0_i32_43 v55
  v56.toNat
def k0_off2 (d0 : Dev nD) (c_m1_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_48 : BitVec 32 := 2#32
  let v65 : BitVec 32 := Scalar.addi v2 c2_i32_48
  let v66 : BitVec 32 := Scalar.addi v65 c_m1_i32_49
  let c16_i32_50 : BitVec 32 := 16#32
  let c0_i32_51 : BitVec 32 := 0#32
  let v67 : BitVec 1 := Scalar.cmpi .eq c16_i32_50 c0_i32_51
  let c1_i32_52 : BitVec 32 := 1#32
  let v68 : BitVec 32 := Scalar.select v67 c1_i32_52 c16_i32_50
  let v69 : BitVec 32 := Scalar.remsi v66 v68
  let c0_i32_54 : BitVec 32 := 0#32
  let v71 : BitVec 1 := Scalar.cmpi .slt v69 c0_i32_54
  let c0_i32_55 : BitVec 32 := 0#32
  let v72 : BitVec 1 := Scalar.cmpi .slt v68 c0_i32_55
  let v73 : BitVec 1 := Scalar.xori v71 v72
  let c0_i32_53 : BitVec 32 := 0#32
  let v70 : BitVec 1 := Scalar.cmpi .ne v69 c0_i32_53
  let v74 : BitVec 1 := Scalar.andi v73 v70
  let v75 : BitVec 32 := Scalar.addi v69 v68
  let v76 : BitVec 32 := Scalar.select v74 v75 v69
  let c256_i32_56 : BitVec 32 := 256#32
  let v77 : BitVec 32 := Scalar.muli v76 c256_i32_56
  let v78 : Index := Scalar.indexCast v77
  let c0_57 : Index := 0#32
  ![v78.toNat, 0]
def k0_off2_at (r : Fin 16) : BitVec 32 :=
  if r.val < 8 then
    if r.val < 4 then
      if r.val < 2 then
        if r.val < 1 then
          4294967295#32
        else
          0#32
      else
        if r.val < 3 then
          1#32
        else
          2#32
    else
      if r.val < 6 then
        if r.val < 5 then
          3#32
        else
          4#32
      else
        if r.val < 7 then
          5#32
        else
          6#32
  else
    if r.val < 12 then
      if r.val < 10 then
        if r.val < 9 then
          7#32
        else
          8#32
      else
        if r.val < 11 then
          9#32
        else
          10#32
    else
      if r.val < 14 then
        if r.val < 13 then
          11#32
        else
          12#32
      else
        if r.val < 15 then
          13#32
        else
          14#32
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_72 : BitVec 32 := 1#32
  let v87 : BitVec 32 := Scalar.muli v24 c1_i32_72
  let v88 : BitVec 32 := Scalar.addi c0_i32_73 v87
  v88.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_101 : BitVec 32 := 1#32
  let v119 : BitVec 32 := Scalar.muli v13 c1_i32_101
  let v120 : BitVec 32 := Scalar.addi c0_i32_102 v119
  v120.toNat
def k0_dev6 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_131 : BitVec 32 := 1#32
  let v151 : BitVec 32 := Scalar.muli v24 c1_i32_131
  let v152 : BitVec 32 := Scalar.addi c0_i32_132 v151
  v152.toNat
def k0_dev7 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_178 : BitVec 32 := 1#32
  let v194 : BitVec 32 := Scalar.muli v24 c1_i32_178
  let v195 : BitVec 32 := Scalar.addi c0_i32_179 v194
  v195.toNat
def k0_dev8 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_198 : BitVec 32 := 1#32
  let v202 : BitVec 32 := Scalar.muli v13 c1_i32_198
  let v203 : BitVec 32 := Scalar.addi c0_i32_199 v202
  v203.toNat
def k0_dev9 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_245 : BitVec 32 := 1#32
  let v245 : BitVec 32 := Scalar.muli v13 c1_i32_245
  let v246 : BitVec 32 := Scalar.addi c0_i32_246 v245
  v246.toNat
def k0_dev10 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_265 : BitVec 32 := 1#32
  let v253 : BitVec 32 := Scalar.muli v24 c1_i32_265
  let v254 : BitVec 32 := Scalar.addi c0_i32_266 v253
  v254.toNat
def k0_dev11 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_312 : BitVec 32 := 1#32
  let v296 : BitVec 32 := Scalar.muli v24 c1_i32_312
  let v297 : BitVec 32 := Scalar.addi c0_i32_313 v296
  v297.toNat
def k0_dev12 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_332 : BitVec 32 := 1#32
  let v304 : BitVec 32 := Scalar.muli v13 c1_i32_332
  let v305 : BitVec 32 := Scalar.addi c0_i32_333 v304
  v305.toNat
def k0_dev13 (d0 : Dev nD) : Nat :=
  let c0_i32_380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_379 : BitVec 32 := 1#32
  let v347 : BitVec 32 := Scalar.muli v13 c1_i32_379
  let v348 : BitVec 32 := Scalar.addi c0_i32_380 v347
  v348.toNat
def k0_dev14 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_399 : BitVec 32 := 1#32
  let v355 : BitVec 32 := Scalar.muli v24 c1_i32_399
  let v356 : BitVec 32 := Scalar.addi c0_i32_400 v355
  v356.toNat
def k0_dev15 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_446 : BitVec 32 := 1#32
  let v398 : BitVec 32 := Scalar.muli v24 c1_i32_446
  let v399 : BitVec 32 := Scalar.addi c0_i32_447 v398
  v399.toNat
def k0_dev16 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_466 : BitVec 32 := 1#32
  let v406 : BitVec 32 := Scalar.muli v13 c1_i32_466
  let v407 : BitVec 32 := Scalar.addi c0_i32_467 v406
  v407.toNat
def k0_dev17 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_513 : BitVec 32 := 1#32
  let v449 : BitVec 32 := Scalar.muli v13 c1_i32_513
  let v450 : BitVec 32 := Scalar.addi c0_i32_514 v449
  v450.toNat
def k0_dev18 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_533 : BitVec 32 := 1#32
  let v457 : BitVec 32 := Scalar.muli v24 c1_i32_533
  let v458 : BitVec 32 := Scalar.addi c0_i32_534 v457
  v458.toNat
def k0_dev19 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_580 : BitVec 32 := 1#32
  let v500 : BitVec 32 := Scalar.muli v24 c1_i32_580
  let v501 : BitVec 32 := Scalar.addi c0_i32_581 v500
  v501.toNat
def k0_dev20 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_600 : BitVec 32 := 1#32
  let v508 : BitVec 32 := Scalar.muli v13 c1_i32_600
  let v509 : BitVec 32 := Scalar.addi c0_i32_601 v508
  v509.toNat
def k0_dev21 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_647 : BitVec 32 := 1#32
  let v551 : BitVec 32 := Scalar.muli v13 c1_i32_647
  let v552 : BitVec 32 := Scalar.addi c0_i32_648 v551
  v552.toNat
def k0_dev22 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_667 : BitVec 32 := 1#32
  let v559 : BitVec 32 := Scalar.muli v24 c1_i32_667
  let v560 : BitVec 32 := Scalar.addi c0_i32_668 v559
  v560.toNat
def k0_dev23 (d0 : Dev nD) : Nat :=
  let c0_i32_715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_714 : BitVec 32 := 1#32
  let v602 : BitVec 32 := Scalar.muli v24 c1_i32_714
  let v603 : BitVec 32 := Scalar.addi c0_i32_715 v602
  v603.toNat
def k0_dev24 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_734 : BitVec 32 := 1#32
  let v610 : BitVec 32 := Scalar.muli v13 c1_i32_734
  let v611 : BitVec 32 := Scalar.addi c0_i32_735 v610
  v611.toNat
def k0_dev25 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_781 : BitVec 32 := 1#32
  let v653 : BitVec 32 := Scalar.muli v13 c1_i32_781
  let v654 : BitVec 32 := Scalar.addi c0_i32_782 v653
  v654.toNat
def k0_dev26 (d0 : Dev nD) : Nat :=
  let c0_i32_802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_801 : BitVec 32 := 1#32
  let v661 : BitVec 32 := Scalar.muli v24 c1_i32_801
  let v662 : BitVec 32 := Scalar.addi c0_i32_802 v661
  v662.toNat
def k0_dev27 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_848 : BitVec 32 := 1#32
  let v704 : BitVec 32 := Scalar.muli v24 c1_i32_848
  let v705 : BitVec 32 := Scalar.addi c0_i32_849 v704
  v705.toNat
def k0_dev28 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_868 : BitVec 32 := 1#32
  let v712 : BitVec 32 := Scalar.muli v13 c1_i32_868
  let v713 : BitVec 32 := Scalar.addi c0_i32_869 v712
  v713.toNat
def k0_dev29 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_915 : BitVec 32 := 1#32
  let v755 : BitVec 32 := Scalar.muli v13 c1_i32_915
  let v756 : BitVec 32 := Scalar.addi c0_i32_916 v755
  v756.toNat
def k0_dev30 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_935 : BitVec 32 := 1#32
  let v763 : BitVec 32 := Scalar.muli v24 c1_i32_935
  let v764 : BitVec 32 := Scalar.addi c0_i32_936 v763
  v764.toNat
def k0_dev31 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_981 : BitVec 32 := 1#32
  let v806 : BitVec 32 := Scalar.muli v24 c1_i32_981
  let v807 : BitVec 32 := Scalar.addi c0_i32_982 v806
  v807.toNat
def k0_dev32 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1001 : BitVec 32 := 1#32
  let v814 : BitVec 32 := Scalar.muli v13 c1_i32_1001
  let v815 : BitVec 32 := Scalar.addi c0_i32_1002 v814
  v815.toNat
def k0_dev33 (d0 : Dev nD) : Nat :=
  let c0_i32_1049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1048 : BitVec 32 := 1#32
  let v857 : BitVec 32 := Scalar.muli v13 c1_i32_1048
  let v858 : BitVec 32 := Scalar.addi c0_i32_1049 v857
  v858.toNat
def k0_dev34 (d0 : Dev nD) : Nat :=
  let c0_i32_1069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1068 : BitVec 32 := 1#32
  let v865 : BitVec 32 := Scalar.muli v24 c1_i32_1068
  let v866 : BitVec 32 := Scalar.addi c0_i32_1069 v865
  v866.toNat
def k0_dev35 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1115 : BitVec 32 := 1#32
  let v908 : BitVec 32 := Scalar.muli v24 c1_i32_1115
  let v909 : BitVec 32 := Scalar.addi c0_i32_1116 v908
  v909.toNat
def k0_dev36 (d0 : Dev nD) : Nat :=
  let c0_i32_1136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1135 : BitVec 32 := 1#32
  let v916 : BitVec 32 := Scalar.muli v13 c1_i32_1135
  let v917 : BitVec 32 := Scalar.addi c0_i32_1136 v916
  v917.toNat
def k0_dev37 (d0 : Dev nD) : Nat :=
  let c0_i32_1183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1182 : BitVec 32 := 1#32
  let v959 : BitVec 32 := Scalar.muli v13 c1_i32_1182
  let v960 : BitVec 32 := Scalar.addi c0_i32_1183 v959
  v960.toNat
def k0_dev38 (d0 : Dev nD) : Nat :=
  let c0_i32_1203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1202 : BitVec 32 := 1#32
  let v967 : BitVec 32 := Scalar.muli v24 c1_i32_1202
  let v968 : BitVec 32 := Scalar.addi c0_i32_1203 v967
  v968.toNat
def k0_dev39 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1248 : BitVec 32 := 1#32
  let v1010 : BitVec 32 := Scalar.muli v24 c1_i32_1248
  let v1011 : BitVec 32 := Scalar.addi c0_i32_1249 v1010
  v1011.toNat
def k0_dev40 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1268 : BitVec 32 := 1#32
  let v1018 : BitVec 32 := Scalar.muli v13 c1_i32_1268
  let v1019 : BitVec 32 := Scalar.addi c0_i32_1269 v1018
  v1019.toNat
def k0_dev41 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1315 : BitVec 32 := 1#32
  let v1061 : BitVec 32 := Scalar.muli v13 c1_i32_1315
  let v1062 : BitVec 32 := Scalar.addi c0_i32_1316 v1061
  v1062.toNat
def k0_dev42 (d0 : Dev nD) : Nat :=
  let c0_i32_1336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1335 : BitVec 32 := 1#32
  let v1069 : BitVec 32 := Scalar.muli v24 c1_i32_1335
  let v1070 : BitVec 32 := Scalar.addi c0_i32_1336 v1069
  v1070.toNat
def k0_dev43 (d0 : Dev nD) : Nat :=
  let c0_i32_1383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1382 : BitVec 32 := 1#32
  let v1112 : BitVec 32 := Scalar.muli v24 c1_i32_1382
  let v1113 : BitVec 32 := Scalar.addi c0_i32_1383 v1112
  v1113.toNat
def k0_dev44 (d0 : Dev nD) : Nat :=
  let c0_i32_1403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1402 : BitVec 32 := 1#32
  let v1120 : BitVec 32 := Scalar.muli v13 c1_i32_1402
  let v1121 : BitVec 32 := Scalar.addi c0_i32_1403 v1120
  v1121.toNat
def k0_dev45 (d0 : Dev nD) : Nat :=
  let c0_i32_1450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1449 : BitVec 32 := 1#32
  let v1163 : BitVec 32 := Scalar.muli v13 c1_i32_1449
  let v1164 : BitVec 32 := Scalar.addi c0_i32_1450 v1163
  v1164.toNat
def k0_dev46 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1469 : BitVec 32 := 1#32
  let v1171 : BitVec 32 := Scalar.muli v24 c1_i32_1469
  let v1172 : BitVec 32 := Scalar.addi c0_i32_1470 v1171
  v1172.toNat
def k0_dev47 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1515 : BitVec 32 := 1#32
  let v1214 : BitVec 32 := Scalar.muli v24 c1_i32_1515
  let v1215 : BitVec 32 := Scalar.addi c0_i32_1516 v1214
  v1215.toNat
def k0_dev48 (d0 : Dev nD) : Nat :=
  let c0_i32_1536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1535 : BitVec 32 := 1#32
  let v1222 : BitVec 32 := Scalar.muli v13 c1_i32_1535
  let v1223 : BitVec 32 := Scalar.addi c0_i32_1536 v1222
  v1223.toNat
def k0_dev49 (d0 : Dev nD) : Nat :=
  let c0_i32_1583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1582 : BitVec 32 := 1#32
  let v1265 : BitVec 32 := Scalar.muli v13 c1_i32_1582
  let v1266 : BitVec 32 := Scalar.addi c0_i32_1583 v1265
  v1266.toNat
def k0_dev50 (d0 : Dev nD) : Nat :=
  let c0_i32_1603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1602 : BitVec 32 := 1#32
  let v1273 : BitVec 32 := Scalar.muli v24 c1_i32_1602
  let v1274 : BitVec 32 := Scalar.addi c0_i32_1603 v1273
  v1274.toNat
def k0_dev51 (d0 : Dev nD) : Nat :=
  let c0_i32_1650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1649 : BitVec 32 := 1#32
  let v1316 : BitVec 32 := Scalar.muli v24 c1_i32_1649
  let v1317 : BitVec 32 := Scalar.addi c0_i32_1650 v1316
  v1317.toNat
def k0_dev52 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1669 : BitVec 32 := 1#32
  let v1324 : BitVec 32 := Scalar.muli v13 c1_i32_1669
  let v1325 : BitVec 32 := Scalar.addi c0_i32_1670 v1324
  v1325.toNat
def k0_dev53 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1716 : BitVec 32 := 1#32
  let v1367 : BitVec 32 := Scalar.muli v13 c1_i32_1716
  let v1368 : BitVec 32 := Scalar.addi c0_i32_1717 v1367
  v1368.toNat
def k0_dev54 (d0 : Dev nD) : Nat :=
  let c0_i32_1737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1736 : BitVec 32 := 1#32
  let v1375 : BitVec 32 := Scalar.muli v24 c1_i32_1736
  let v1376 : BitVec 32 := Scalar.addi c0_i32_1737 v1375
  v1376.toNat
def k0_dev55 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1782 : BitVec 32 := 1#32
  let v1418 : BitVec 32 := Scalar.muli v24 c1_i32_1782
  let v1419 : BitVec 32 := Scalar.addi c0_i32_1783 v1418
  v1419.toNat
def k0_dev56 (d0 : Dev nD) : Nat :=
  let c0_i32_1803 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1802 : BitVec 32 := 1#32
  let v1426 : BitVec 32 := Scalar.muli v13 c1_i32_1802
  let v1427 : BitVec 32 := Scalar.addi c0_i32_1803 v1426
  v1427.toNat
def k0_dev57 (d0 : Dev nD) : Nat :=
  let c0_i32_1850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1849 : BitVec 32 := 1#32
  let v1469 : BitVec 32 := Scalar.muli v13 c1_i32_1849
  let v1470 : BitVec 32 := Scalar.addi c0_i32_1850 v1469
  v1470.toNat
def k0_dev58 (d0 : Dev nD) : Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1869 : BitVec 32 := 1#32
  let v1477 : BitVec 32 := Scalar.muli v24 c1_i32_1869
  let v1478 : BitVec 32 := Scalar.addi c0_i32_1870 v1477
  v1478.toNat
def k0_dev59 (d0 : Dev nD) : Nat :=
  let c0_i32_1917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1916 : BitVec 32 := 1#32
  let v1520 : BitVec 32 := Scalar.muli v24 c1_i32_1916
  let v1521 : BitVec 32 := Scalar.addi c0_i32_1917 v1520
  v1521.toNat
def k0_dev60 (d0 : Dev nD) : Nat :=
  let c0_i32_1937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1936 : BitVec 32 := 1#32
  let v1528 : BitVec 32 := Scalar.muli v13 c1_i32_1936
  let v1529 : BitVec 32 := Scalar.addi c0_i32_1937 v1528
  v1529.toNat
def k0_dev61 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1983 : BitVec 32 := 1#32
  let v1571 : BitVec 32 := Scalar.muli v13 c1_i32_1983
  let v1572 : BitVec 32 := Scalar.addi c0_i32_1984 v1571
  v1572.toNat
def k0_dev62 (d0 : Dev nD) : Nat :=
  let c0_i32_2004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2003 : BitVec 32 := 1#32
  let v1579 : BitVec 32 := Scalar.muli v24 c1_i32_2003
  let v1580 : BitVec 32 := Scalar.addi c0_i32_2004 v1579
  v1580.toNat
def k0_dev63 (d0 : Dev nD) : Nat :=
  let c0_i32_2050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2049 : BitVec 32 := 1#32
  let v1622 : BitVec 32 := Scalar.muli v24 c1_i32_2049
  let v1623 : BitVec 32 := Scalar.addi c0_i32_2050 v1622
  v1623.toNat
def k0_dev64 (d0 : Dev nD) : Nat :=
  let c0_i32_2070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2069 : BitVec 32 := 1#32
  let v1630 : BitVec 32 := Scalar.muli v13 c1_i32_2069
  let v1631 : BitVec 32 := Scalar.addi c0_i32_2070 v1630
  v1631.toNat
def k0_dev65 (d0 : Dev nD) : Nat :=
  let c0_i32_2117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2116 : BitVec 32 := 1#32
  let v1673 : BitVec 32 := Scalar.muli v13 c1_i32_2116
  let v1674 : BitVec 32 := Scalar.addi c0_i32_2117 v1673
  v1674.toNat
def k0_dev66 (d0 : Dev nD) : Nat :=
  let c0_i32_2137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2136 : BitVec 32 := 1#32
  let v1681 : BitVec 32 := Scalar.muli v24 c1_i32_2136
  let v1682 : BitVec 32 := Scalar.addi c0_i32_2137 v1681
  v1682.toNat
def k0_dev67 (d0 : Dev nD) : Nat :=
  let c0_i32_2184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2183 : BitVec 32 := 1#32
  let v1724 : BitVec 32 := Scalar.muli v24 c1_i32_2183
  let v1725 : BitVec 32 := Scalar.addi c0_i32_2184 v1724
  v1725.toNat
def k0_dev68 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2203 : BitVec 32 := 1#32
  let v1732 : BitVec 32 := Scalar.muli v13 c1_i32_2203
  let v1733 : BitVec 32 := Scalar.addi c0_i32_2204 v1732
  v1733.toNat
def k0_dev69 (d0 : Dev nD) : Nat :=
  let c0_i32_2251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2250 : BitVec 32 := 1#32
  let v1775 : BitVec 32 := Scalar.muli v13 c1_i32_2250
  let v1776 : BitVec 32 := Scalar.addi c0_i32_2251 v1775
  v1776.toNat
def k0_dev70 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2270 : BitVec 32 := 1#32
  let v1783 : BitVec 32 := Scalar.muli v24 c1_i32_2270
  let v1784 : BitVec 32 := Scalar.addi c0_i32_2271 v1783
  v1784.toNat
def k0_dev71 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2316 : BitVec 32 := 1#32
  let v1826 : BitVec 32 := Scalar.muli v24 c1_i32_2316
  let v1827 : BitVec 32 := Scalar.addi c0_i32_2317 v1826
  v1827.toNat
def k0_dev72 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2336 : BitVec 32 := 1#32
  let v1834 : BitVec 32 := Scalar.muli v13 c1_i32_2336
  let v1835 : BitVec 32 := Scalar.addi c0_i32_2337 v1834
  v1835.toNat
def k0_dev73 (d0 : Dev nD) : Nat :=
  let c0_i32_2384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2383 : BitVec 32 := 1#32
  let v1877 : BitVec 32 := Scalar.muli v13 c1_i32_2383
  let v1878 : BitVec 32 := Scalar.addi c0_i32_2384 v1877
  v1878.toNat
def k0_dev74 (d0 : Dev nD) : Nat :=
  let c0_i32_2404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2403 : BitVec 32 := 1#32
  let v1885 : BitVec 32 := Scalar.muli v24 c1_i32_2403
  let v1886 : BitVec 32 := Scalar.addi c0_i32_2404 v1885
  v1886.toNat
def k0_dev75 (d0 : Dev nD) : Nat :=
  let c0_i32_2451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2450 : BitVec 32 := 1#32
  let v1928 : BitVec 32 := Scalar.muli v24 c1_i32_2450
  let v1929 : BitVec 32 := Scalar.addi c0_i32_2451 v1928
  v1929.toNat
def k0_dev76 (d0 : Dev nD) : Nat :=
  let c0_i32_2471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2470 : BitVec 32 := 1#32
  let v1936 : BitVec 32 := Scalar.muli v13 c1_i32_2470
  let v1937 : BitVec 32 := Scalar.addi c0_i32_2471 v1936
  v1937.toNat
def k0_dev77 (d0 : Dev nD) : Nat :=
  let c0_i32_2518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2517 : BitVec 32 := 1#32
  let v1979 : BitVec 32 := Scalar.muli v13 c1_i32_2517
  let v1980 : BitVec 32 := Scalar.addi c0_i32_2518 v1979
  v1980.toNat
def k0_dev78 (d0 : Dev nD) : Nat :=
  let c0_i32_2538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2537 : BitVec 32 := 1#32
  let v1987 : BitVec 32 := Scalar.muli v24 c1_i32_2537
  let v1988 : BitVec 32 := Scalar.addi c0_i32_2538 v1987
  v1988.toNat
def k0_dev79 (d0 : Dev nD) : Nat :=
  let c0_i32_2584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2583 : BitVec 32 := 1#32
  let v2030 : BitVec 32 := Scalar.muli v24 c1_i32_2583
  let v2031 : BitVec 32 := Scalar.addi c0_i32_2584 v2030
  v2031.toNat
def k0_dev80 (d0 : Dev nD) : Nat :=
  let c0_i32_2604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2603 : BitVec 32 := 1#32
  let v2038 : BitVec 32 := Scalar.muli v13 c1_i32_2603
  let v2039 : BitVec 32 := Scalar.addi c0_i32_2604 v2038
  v2039.toNat
def k0_dev81 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2650 : BitVec 32 := 1#32
  let v2081 : BitVec 32 := Scalar.muli v13 c1_i32_2650
  let v2082 : BitVec 32 := Scalar.addi c0_i32_2651 v2081
  v2082.toNat
def k0_dev82 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2670 : BitVec 32 := 1#32
  let v2089 : BitVec 32 := Scalar.muli v24 c1_i32_2670
  let v2090 : BitVec 32 := Scalar.addi c0_i32_2671 v2089
  v2090.toNat
def k0_dev83 (d0 : Dev nD) : Nat :=
  let c0_i32_2718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2717 : BitVec 32 := 1#32
  let v2132 : BitVec 32 := Scalar.muli v24 c1_i32_2717
  let v2133 : BitVec 32 := Scalar.addi c0_i32_2718 v2132
  v2133.toNat
def k0_dev84 (d0 : Dev nD) : Nat :=
  let c0_i32_2738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2737 : BitVec 32 := 1#32
  let v2140 : BitVec 32 := Scalar.muli v13 c1_i32_2737
  let v2141 : BitVec 32 := Scalar.addi c0_i32_2738 v2140
  v2141.toNat
def k0_dev85 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2784 : BitVec 32 := 1#32
  let v2183 : BitVec 32 := Scalar.muli v13 c1_i32_2784
  let v2184 : BitVec 32 := Scalar.addi c0_i32_2785 v2183
  v2184.toNat
def k0_dev86 (d0 : Dev nD) : Nat :=
  let c0_i32_2805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2804 : BitVec 32 := 1#32
  let v2191 : BitVec 32 := Scalar.muli v24 c1_i32_2804
  let v2192 : BitVec 32 := Scalar.addi c0_i32_2805 v2191
  v2192.toNat
def k0_dev87 (d0 : Dev nD) : Nat :=
  let c0_i32_2851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2850 : BitVec 32 := 1#32
  let v2234 : BitVec 32 := Scalar.muli v24 c1_i32_2850
  let v2235 : BitVec 32 := Scalar.addi c0_i32_2851 v2234
  v2235.toNat
def k0_dev88 (d0 : Dev nD) : Nat :=
  let c0_i32_2871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2870 : BitVec 32 := 1#32
  let v2242 : BitVec 32 := Scalar.muli v13 c1_i32_2870
  let v2243 : BitVec 32 := Scalar.addi c0_i32_2871 v2242
  v2243.toNat
def k0_dev89 (d0 : Dev nD) : Nat :=
  let c0_i32_2918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2917 : BitVec 32 := 1#32
  let v2285 : BitVec 32 := Scalar.muli v13 c1_i32_2917
  let v2286 : BitVec 32 := Scalar.addi c0_i32_2918 v2285
  v2286.toNat
def k0_dev90 (d0 : Dev nD) : Nat :=
  let c0_i32_2938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2937 : BitVec 32 := 1#32
  let v2293 : BitVec 32 := Scalar.muli v24 c1_i32_2937
  let v2294 : BitVec 32 := Scalar.addi c0_i32_2938 v2293
  v2294.toNat
def k0_dev91 (d0 : Dev nD) : Nat :=
  let c0_i32_2985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2984 : BitVec 32 := 1#32
  let v2336 : BitVec 32 := Scalar.muli v24 c1_i32_2984
  let v2337 : BitVec 32 := Scalar.addi c0_i32_2985 v2336
  v2337.toNat
def k0_dev92 (d0 : Dev nD) : Nat :=
  let c0_i32_3005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3004 : BitVec 32 := 1#32
  let v2344 : BitVec 32 := Scalar.muli v13 c1_i32_3004
  let v2345 : BitVec 32 := Scalar.addi c0_i32_3005 v2344
  v2345.toNat
def k0_dev93 (d0 : Dev nD) : Nat :=
  let c0_i32_3052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3051 : BitVec 32 := 1#32
  let v2387 : BitVec 32 := Scalar.muli v13 c1_i32_3051
  let v2388 : BitVec 32 := Scalar.addi c0_i32_3052 v2387
  v2388.toNat
def k0_dev94 (d0 : Dev nD) : Nat :=
  let c0_i32_3072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3071 : BitVec 32 := 1#32
  let v2395 : BitVec 32 := Scalar.muli v24 c1_i32_3071
  let v2396 : BitVec 32 := Scalar.addi c0_i32_3072 v2395
  v2396.toNat
def k0_dev95 (d0 : Dev nD) : Nat :=
  let c0_i32_3118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3117 : BitVec 32 := 1#32
  let v2438 : BitVec 32 := Scalar.muli v24 c1_i32_3117
  let v2439 : BitVec 32 := Scalar.addi c0_i32_3118 v2438
  v2439.toNat
def k0_dev96 (d0 : Dev nD) : Nat :=
  let c0_i32_3138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3137 : BitVec 32 := 1#32
  let v2446 : BitVec 32 := Scalar.muli v13 c1_i32_3137
  let v2447 : BitVec 32 := Scalar.addi c0_i32_3138 v2446
  v2447.toNat
def k0_dev97 (d0 : Dev nD) : Nat :=
  let c0_i32_3185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3184 : BitVec 32 := 1#32
  let v2489 : BitVec 32 := Scalar.muli v13 c1_i32_3184
  let v2490 : BitVec 32 := Scalar.addi c0_i32_3185 v2489
  v2490.toNat
def k0_dev98 (d0 : Dev nD) : Nat :=
  let c0_i32_3205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3204 : BitVec 32 := 1#32
  let v2497 : BitVec 32 := Scalar.muli v24 c1_i32_3204
  let v2498 : BitVec 32 := Scalar.addi c0_i32_3205 v2497
  v2498.toNat
def k0_dev99 (d0 : Dev nD) : Nat :=
  let c0_i32_3252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3251 : BitVec 32 := 1#32
  let v2540 : BitVec 32 := Scalar.muli v24 c1_i32_3251
  let v2541 : BitVec 32 := Scalar.addi c0_i32_3252 v2540
  v2541.toNat
def k0_dev100 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3271 : BitVec 32 := 1#32
  let v2548 : BitVec 32 := Scalar.muli v13 c1_i32_3271
  let v2549 : BitVec 32 := Scalar.addi c0_i32_3272 v2548
  v2549.toNat
def k0_dev101 (d0 : Dev nD) : Nat :=
  let c0_i32_3319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3318 : BitVec 32 := 1#32
  let v2591 : BitVec 32 := Scalar.muli v13 c1_i32_3318
  let v2592 : BitVec 32 := Scalar.addi c0_i32_3319 v2591
  v2592.toNat
def k0_dev102 (d0 : Dev nD) : Nat :=
  let c0_i32_3339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3338 : BitVec 32 := 1#32
  let v2599 : BitVec 32 := Scalar.muli v24 c1_i32_3338
  let v2600 : BitVec 32 := Scalar.addi c0_i32_3339 v2599
  v2600.toNat
def k0_dev103 (d0 : Dev nD) : Nat :=
  let c0_i32_3385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3384 : BitVec 32 := 1#32
  let v2642 : BitVec 32 := Scalar.muli v24 c1_i32_3384
  let v2643 : BitVec 32 := Scalar.addi c0_i32_3385 v2642
  v2643.toNat
def k0_dev104 (d0 : Dev nD) : Nat :=
  let c0_i32_3405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3404 : BitVec 32 := 1#32
  let v2650 : BitVec 32 := Scalar.muli v13 c1_i32_3404
  let v2651 : BitVec 32 := Scalar.addi c0_i32_3405 v2650
  v2651.toNat
def k0_dev105 (d0 : Dev nD) : Nat :=
  let c0_i32_3452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3451 : BitVec 32 := 1#32
  let v2693 : BitVec 32 := Scalar.muli v13 c1_i32_3451
  let v2694 : BitVec 32 := Scalar.addi c0_i32_3452 v2693
  v2694.toNat
def k0_dev106 (d0 : Dev nD) : Nat :=
  let c0_i32_3472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3471 : BitVec 32 := 1#32
  let v2701 : BitVec 32 := Scalar.muli v24 c1_i32_3471
  let v2702 : BitVec 32 := Scalar.addi c0_i32_3472 v2701
  v2702.toNat
def k0_dev107 (d0 : Dev nD) : Nat :=
  let c0_i32_3519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3518 : BitVec 32 := 1#32
  let v2744 : BitVec 32 := Scalar.muli v24 c1_i32_3518
  let v2745 : BitVec 32 := Scalar.addi c0_i32_3519 v2744
  v2745.toNat
def k0_dev108 (d0 : Dev nD) : Nat :=
  let c0_i32_3539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3538 : BitVec 32 := 1#32
  let v2752 : BitVec 32 := Scalar.muli v13 c1_i32_3538
  let v2753 : BitVec 32 := Scalar.addi c0_i32_3539 v2752
  v2753.toNat
def k0_dev109 (d0 : Dev nD) : Nat :=
  let c0_i32_3586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3585 : BitVec 32 := 1#32
  let v2795 : BitVec 32 := Scalar.muli v13 c1_i32_3585
  let v2796 : BitVec 32 := Scalar.addi c0_i32_3586 v2795
  v2796.toNat
def k0_dev110 (d0 : Dev nD) : Nat :=
  let c0_i32_3606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3605 : BitVec 32 := 1#32
  let v2803 : BitVec 32 := Scalar.muli v24 c1_i32_3605
  let v2804 : BitVec 32 := Scalar.addi c0_i32_3606 v2803
  v2804.toNat
def k0_dev111 (d0 : Dev nD) : Nat :=
  let c0_i32_3652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3651 : BitVec 32 := 1#32
  let v2846 : BitVec 32 := Scalar.muli v24 c1_i32_3651
  let v2847 : BitVec 32 := Scalar.addi c0_i32_3652 v2846
  v2847.toNat
def k0_dev112 (d0 : Dev nD) : Nat :=
  let c0_i32_3672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3671 : BitVec 32 := 1#32
  let v2854 : BitVec 32 := Scalar.muli v13 c1_i32_3671
  let v2855 : BitVec 32 := Scalar.addi c0_i32_3672 v2854
  v2855.toNat
def k0_dev113 (d0 : Dev nD) : Nat :=
  let c0_i32_3719 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3718 : BitVec 32 := 1#32
  let v2897 : BitVec 32 := Scalar.muli v13 c1_i32_3718
  let v2898 : BitVec 32 := Scalar.addi c0_i32_3719 v2897
  v2898.toNat
def k0_dev114 (d0 : Dev nD) : Nat :=
  let c0_i32_3739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3738 : BitVec 32 := 1#32
  let v2905 : BitVec 32 := Scalar.muli v24 c1_i32_3738
  let v2906 : BitVec 32 := Scalar.addi c0_i32_3739 v2905
  v2906.toNat
def k0_dev115 (d0 : Dev nD) : Nat :=
  let c0_i32_3786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3785 : BitVec 32 := 1#32
  let v2948 : BitVec 32 := Scalar.muli v24 c1_i32_3785
  let v2949 : BitVec 32 := Scalar.addi c0_i32_3786 v2948
  v2949.toNat
def k0_dev116 (d0 : Dev nD) : Nat :=
  let c0_i32_3806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3805 : BitVec 32 := 1#32
  let v2956 : BitVec 32 := Scalar.muli v13 c1_i32_3805
  let v2957 : BitVec 32 := Scalar.addi c0_i32_3806 v2956
  v2957.toNat
def k0_dev117 (d0 : Dev nD) : Nat :=
  let c0_i32_3853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3852 : BitVec 32 := 1#32
  let v2999 : BitVec 32 := Scalar.muli v13 c1_i32_3852
  let v3000 : BitVec 32 := Scalar.addi c0_i32_3853 v2999
  v3000.toNat
def k0_dev118 (d0 : Dev nD) : Nat :=
  let c0_i32_3873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.subi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3872 : BitVec 32 := 1#32
  let v3007 : BitVec 32 := Scalar.muli v24 c1_i32_3872
  let v3008 : BitVec 32 := Scalar.addi c0_i32_3873 v3007
  v3008.toNat
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Chain.lean ====
/- The kernel's body as a chain of steps: a prologue, and one step for each (hop, half, ring), all
   sixty-four of them one of three programs. -/
module

public import proofs.«01_k».proof.Proof.Gen.KernelIdeal.Skeleton

@[expose] public section

noncomputable section

namespace Cert.KernelIdeal.Own

open Idealize.ShloMosaic Idealize.SL.Sem Cert.KernelIdeal.Gen

variable {F : FTy → Type} [FloatOps F]

/-- A program of a core of the kernel's body. -/
abbrev Pr (F : FTy → Type) : Type 1 := Prog (TpuEff nD τ sig (Elt F) Λ₀ .tc) PUnit

/-- The device ring `ρ` sends to: the right-hand neighbour on ring `false`, the left-hand one on ring `true`. -/
def dst : Bool → Dev nD → Dev nD
  | false, d => ⟨k0_dev2 d, k0_dev2_lt d⟩
  | true, d => ⟨k0_dev1 d, k0_dev1_lt d⟩

/-- The device ring `ρ` receives from. -/
abbrev src (ρ : Bool) (d : Dev nD) : Dev nD := dst (!ρ) d

/-- The staged block of `x`. -/
abbrev xM : Memref sig .tc .vmem S4096x256 .i8 := Memref.whole cc0_stg0_0
/-- The staged block of `w`. -/
abbrev wM : Memref sig .tc .vmem S256x8192 .i8 := Memref.whole cc0_stg1_0
/-- The staged block of the result. -/
abbrev oM : Memref sig .tc .vmem S256x8192 .f32 := Memref.whole cc0_stg4_0
/-- The first scale. -/
abbrev s0M : Memref sig .tc .smem S1 .f32 := Memref.whole cc0_stg2_0
/-- The second scale. -/
abbrev s1M : Memref sig .tc .smem S1 .f32 := Memref.whole cc0_stg3_0

/-- Ring `ρ`'s communication buffer. -/
def commM : Bool → Memref sig .tc .vmem S2x2x256x2048 .i32
  | false => Memref.whole cc0_scratch0
  | true => Memref.whole cc0_scratch1

/-- Ring `ρ`'s departure semaphores. -/
def sArr : Bool → DmaSems sig S2x2
  | false => cc0_scratch2
  | true => cc0_scratch4

/-- Ring `ρ`'s arrival semaphores. -/
def rArr : Bool → DmaSems sig S2x2
  | false => cc0_scratch3
  | true => cc0_scratch5

/-- Ring `ρ`'s credit semaphore. -/
def crS : Bool → Sem sig
  | false => cc0_scratch6.sem
  | true => cc0_scratch7.sem

/-- The barrier's semaphore. -/
def barS : Sem sig := (SemArray.scalar (d := ![]) (sig.barrier 0 rfl)).sem

/-- The slot transfer `k` leaves from: they alternate. -/
def sl (k : ℕ) : Fin 2 := ⟨k % 2, Nat.mod_lt k (by decide)⟩

theorem slot_inb (s j : Fin 2) :
    ∀ a, (![s, j, 0, 0] : Fin 4 → ℕ) a + S1x1x256x2048.size a ≤ S2x2x256x2048.size a := by
  revert s j; decide

theorem sem_inb (s j : Fin 2) : ∀ a, (![s, j] : Fin 2 → ℕ) a + S1x1.size a ≤ S2x2.size a := by
  revert s j; decide

/-- The rectangle of slot `s`, half `j`, of a communication buffer. -/
abbrev slotRect (s j : Fin 2) : Rect S2x2x256x2048 :=
  Rect.unit (s := S2x2x256x2048) ![s, j, 0, 0] S1x1x256x2048.size (slot_inb s j)

/-- Slot `s`, half `j`, of ring `ρ`'s communication buffer. -/
abbrev slotM (ρ : Bool) (s j : Fin 2) : Memref sig .tc .vmem S256x2048 .i32 :=
  ((commM ρ).slice (slotRect s j) (fun _ => rfl)).squeeze S256x2048 squeezes_S1x1x256x2048_S256x2048

/-- The departure semaphore of slot `s`, half `j`. -/
abbrev sSem (ρ : Bool) (s j : Fin 2) : DmaSem sig :=
  (((sArr ρ).slice (Rect.unit (s := S2x2) ![s, j] S1x1.size (sem_inb s j))).squeeze S_ squeezes_S1x1_S_).sem

/-- The arrival semaphore of slot `s`, half `j`. -/
abbrev rSem (ρ : Bool) (s j : Fin 2) : DmaSem sig :=
  (((rArr ρ).slice (Rect.unit (s := S2x2) ![s, j] S1x1.size (sem_inb s j))).squeeze S_ squeezes_S1x1_S_).sem

/-- The first column of ring `ρ`'s half `j`. -/
def col : Bool → Fin 2 → ℕ
  | false, j => 2048 * j
  | true, j => 4096 + 2048 * j

theorem col_inb (ρ : Bool) (j : Fin 2) :
    ∀ a, (![0, col ρ j] : Fin 2 → ℕ) a + S256x2048.size a ≤ S256x8192.size a := by
  revert ρ j; decide

/-- The columns of ring `ρ`'s half `j`. -/
abbrev colRect (ρ : Bool) (j : Fin 2) : Rect S256x8192 :=
  Rect.unit (s := S256x8192) ![0, col ρ j] S256x2048.size (col_inb ρ j)

/-- The first row, and column zero, of the block of `x` a device multiplies at its transfer `k` on ring `ρ`. -/
def rowOff : Bool → Dev nD → Fin 16 → Fin 2 → ℕ
  | false, d, k => k0_off1 d (k0_off1_at k)
  | true, d, k => k0_off2 d (k0_off2_at k)

theorem row_inb (ρ : Bool) (d : Dev nD) (k : Fin 16) : ∀ a, rowOff ρ d k a + S256x256.size a ≤ S4096x256.size a := by
  cases ρ
  · exact k0_off1_inb d k
  · exact k0_off2_inb d k

/-- The rows of `x` a device multiplies at its transfer `k` on ring `ρ`. -/
abbrev rowRect (ρ : Bool) (d : Dev nD) (k : ℕ) : Rect S4096x256 :=
  Rect.unit (s := S4096x256) (rowOff ρ d (Fin.ofNat 16 k)) S256x256.size (row_inb ρ d (Fin.ofNat 16 k))

/-- The product of a block of `x` and a block of `w`. -/
def part (x : Vec F S256x256 .i8) (w : Vec F S256x2048 .i8) : IVec S256x2048 32 :=
  matmulI8 IntMxuNumerics.v7x dot_S256x256_S256x2048_S256x2048_1_0_0_1_n_n
    (shapeCast S256x256 x shapeCasts_S256x256_S256x256)
    (shapeCast S256x2048 w shapeCasts_S256x2048_S256x2048) (constantI S256x2048 32 0#32)

/-- What a step adds up: what the slot held and the product. -/
def acc (c : Vec F S1x1x256x2048 .i32) (x : Vec F S256x256 .i8) (w : Vec F S256x2048 .i8) : IVec S256x2048 32 :=
  addi (shapeCast S256x2048 c shapeCasts_S1x1x256x2048_S256x2048) (part (F := F) x w)

/-- What is stored of the sum: its scaling, negatives cut off. -/
def scaled (sc : F .f32) (a : IVec S256x2048 32) : FVec F S256x2048 .f32 :=
  maximumf (mulf (sitofp .f32 a) (broadcast S256x2048 sc)) (broadcast S256x2048 (Scalar.ofBits .f32 0x00000000#32))

/-- The transfer of slot `sl k` to the neighbour's other slot, and what follows. -/
def sendP (ρ : Bool) (d : Dev nD) (k : ℕ) (j : Fin 2) (next : Pr F) : Pr F :=
  .op (.enqueueDma (slotM ρ (sl k) j) (.remote (Dev.tc (dst ρ d)) (slotM ρ (sl (k + 1)) j) (.dma (sSem ρ (sl k) j)))
    (.dma (rSem ρ (sl (k + 1)) j)) ((View.wordExact_bits rfl).reshape _ _) ((View.wordExact_bits rfl).reshape _ _)
    ⟨⟨rfl, Or.inl rfl⟩, trivial⟩) fun _ => next

/-- The first step of ring `ρ`'s half `j`: its product into slot 0, then the transfer of it. -/
def initP (d : Dev nD) (j : Fin 2) (ρ : Bool) (next : Pr F) : Pr F :=
  .op (.load xM (rowRect ρ d 0).toLoadRect (View.loadsAt_vmem h_S256x256)) fun x =>
  .op (.load wM (colRect ρ j).toLoadRect (View.loadsAt_vmem h_S256x2048)) fun w =>
  .op (.load (commM ρ) (slotRect (sl 0) j).toLoadRect (View.loadsAt_vmem h_S1x1x256x2048)) fun _ =>
  .op (.store (commM ρ) (slotRect (sl 0) j) (shapeCast S1x1x256x2048 (part (F := F) x w) shapeCasts_S256x2048_S1x1x256x2048)
    Finset.univ (View.stores_vmem_bits_univ h_S1x1x256x2048 rfl) (.inl rfl)) fun _ =>
  sendP ρ d 0 j next

/-- The two waits of hop `h`: that the last transfer out of slot `sl h` has left, that one into the other slot is in. -/
def waitsP (h : ℕ) (j : Fin 2) (ρ : Bool) (next : Pr F) : Pr F :=
  .op (.waitDma2 (sSem ρ (sl h) j) (slotM ρ (sl (h + 1)) j) (slotM ρ (sl h) j)
    ((View.wordExact_bits rfl).reshape _ _) ((View.wordExact_bits rfl).reshape _ _)) fun _ =>
  .op (.waitDma2 (rSem ρ (sl (h + 1)) j) (slotM ρ (sl h) j) (slotM ρ (sl (h + 1)) j)
    ((View.wordExact_bits rfl).reshape _ _) ((View.wordExact_bits rfl).reshape _ _)) fun _ => next

/-- Hop `h` of ring `ρ`'s half `j`: the waits, the credit to the sender, the product added to the arrived sum,
    the wait for the receiver's credit, the transfer on. -/
def hopP (d : Dev nD) (h : ℕ) (j : Fin 2) (ρ : Bool) (next : Pr F) : Pr F :=
  .op (.load xM (rowRect ρ d (h + 1)).toLoadRect (View.loadsAt_vmem h_S256x256)) fun x =>
  .op (.load wM (colRect ρ j).toLoadRect (View.loadsAt_vmem h_S256x2048)) fun w =>
  waitsP h j ρ <|
  .op (.semSignal (src ρ d, .tc) (crS ρ) ((1 : ℕ) : Int)) fun _ =>
  .op (.load (commM ρ) (slotRect (sl (h + 1)) j).toLoadRect (View.loadsAt_vmem h_S1x1x256x2048)) fun c =>
  .op (.load (commM ρ) (slotRect (sl (h + 1)) j).toLoadRect (View.loadsAt_vmem h_S1x1x256x2048)) fun _ =>
  .op (.store (commM ρ) (slotRect (sl (h + 1)) j)
    (shapeCast S1x1x256x2048 (acc (F := F) c x w) shapeCasts_S256x2048_S1x1x256x2048)
    Finset.univ (View.stores_vmem_bits_univ h_S1x1x256x2048 rfl) (.inl rfl)) fun _ =>
  .op (.semWait (crS ρ) ((1 : ℕ) : Int)) fun _ =>
  sendP ρ d (h + 1) j next

/-- The last hop of ring `ρ`'s half `j`: the waits, the product added to the arrived sum, the result stored. -/
def lastP (d : Dev nD) (sc : F .f32) (j : Fin 2) (ρ : Bool) (next : Pr F) : Pr F :=
  .op (.load xM (rowRect ρ d 15).toLoadRect (View.loadsAt_vmem h_S256x256)) fun x =>
  .op (.load wM (colRect ρ j).toLoadRect (View.loadsAt_vmem h_S256x2048)) fun w =>
  waitsP 14 j ρ <|
  .op (.load (commM ρ) (slotRect (sl 15) j).toLoadRect (View.loadsAt_vmem h_S1x1x256x2048)) fun c =>
  .op (.load oM (colRect ρ j).toLoadRect (View.loadsAt_vmem h_S256x2048)) fun _ =>
  .op (.store oM (colRect ρ j) (scaled sc (acc (F := F) c x w)) Finset.univ (View.stores_vmem_bits_univ h_S256x2048 rfl)
    (.inl rfl)) fun _ => next

/-- Step `P` for both halves and both rings, in the kernel's order. -/
def four (P : Fin 2 → Bool → Pr F → Pr F) (next : Pr F) : Pr F :=
  P 0 false <| P 0 true <| P 1 false <| P 1 true next

/-- The hops from `h` to 13, of which `n` are left, then `next`. -/
def hopsP (d : Dev nD) (next : Pr F) : ℕ → Pr F
  | 0 => next
  | n + 1 => four (hopP d (13 - n)) (hopsP d next n)

/-- The prologue: the handshake with both neighbours, and the two scales. -/
def prologueP (next : Dev nD → F .f32 → Pr F) : Pr F :=
  .op .deviceId fun d =>
  .op (.semSignal (dst true d, .tc) barS ((1 : ℕ) : Int)) fun _ =>
  .op (.semSignal (dst false d, .tc) barS ((1 : ℕ) : Int)) fun _ =>
  .op (.semWait barS ((2 : ℕ) : Int)) fun _ =>
  .op (.load s0M (Rect.unit (s := S1) ![0] S1.size inb_S1_S1_0).toLoadRect
    (View.loadsAt_rect (View.loads_smem_one rfl numel1_S1))) fun f =>
  .op (.load s1M (Rect.unit (s := S1) ![0] S1.size inb_S1_S1_0).toLoadRect
    (View.loadsAt_rect (View.loads_smem_one rfl numel1_S1))) fun g =>
  next d (Scalar.mulf (f (Shape.Idx.first (numel1_S1.symm ▸ Nat.one_pos)))
    (g (Shape.Idx.first (numel1_S1.symm ▸ Nat.one_pos))))

/-- The whole body. -/
def chain : Pr F :=
  prologueP fun d sc => four (initP d) <| hopsP d (four (lastP d sc) (.ret ⟨⟩)) 14

set_option maxHeartbeats 0 in
set_option maxRecDepth 100000 in
/-- The printed body is the chain. -/
theorem body_eq : cc0_body (F := F) xM (Memref.isWhole_whole _) wM (Memref.isWhole_whole _) s0M (Memref.isWhole_whole _)
      s1M (Memref.isWhole_whole _) oM (Memref.isWhole_whole _) (Memref.whole cc0_scratch0) (Memref.isWhole_whole _)
      (Memref.whole cc0_scratch1) (Memref.isWhole_whole _) cc0_scratch2 cc0_scratch3 cc0_scratch4 cc0_scratch5
      cc0_scratch6 cc0_scratch7 = chain := by
  rw [cc0_body_eq_skeleton]
  rfl

end Cert.KernelIdeal.Own
-- ==== Proof.Proto.lean ====
/- The protocol of the two rings: the cells, what each step of a ring is owed and pays, what the buffers hold. -/
module

public import proofs.«01_k».proof.Proof.Chain
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resources beside the pipeline's -/

/-- What a release is about: a device's ring and half, and the hop. -/
abbrev Key : Type := (Dev nD × Bool × Fin 2) × ℕ

abbrev UB : Type := URounds (GSem nD τ sig) ℕ
abbrev UV : Type := UB × USlots Key
abbrev UU : Type := UR sig nD τ × UV

local notation "𝕄" => MT nD τ sig ℕ (Elt F) ℕ UU ℕ

abbrev EP : Emb (UR sig nD τ) (MT nD τ sig ℕ (Elt F) ℕ UU ℕ) := embL
abbrev EV : Emb UV (MT nD τ sig ℕ (Elt F) ℕ UU ℕ) := embR
abbrev ER : Emb UB (MT nD τ sig ℕ (Elt F) ℕ UU ℕ) := (Emb.inl : Emb UB UV).trans EV
abbrev ES : Emb (USlots Key) (MT nD τ sig ℕ (Elt F) ℕ UU ℕ) := (Emb.inr : Emb (USlots Key) UV).trans EV

/-! ## The rings -/

theorem dst_src (ρ : Bool) (d : Dev nD) : dst ρ (src ρ d) = d := by revert ρ d; decide +kernel
theorem src_dst (ρ : Bool) (d : Dev nD) : src ρ (dst ρ d) = d := by revert ρ d; decide +kernel

/-- A step along ring `ρ`, as a permutation of the devices. -/
def ringE (ρ : Bool) : Dev nD ≃ Dev nD := ⟨dst ρ, src ρ, src_dst ρ, dst_src ρ⟩

theorem sl_add_two (k : ℕ) : sl (k + 1 + 1) = sl k := Fin.ext (by show (k + 1 + 1) % 2 = k % 2; omega)

/-! ## The cells -/

/-- The semaphores the protocol runs on. -/
inductive Cl
  | bar
  | credit (ρ : Bool)
  | send (ρ : Bool) (s j : Fin 2)
  | recv (ρ : Bool) (s j : Fin 2)
  deriving DecidableEq

/-- A ring, a slot and a half. -/
abbrev Tri : Type := Bool × Fin 2 × Fin 2

/-- The semaphores of the protocol, counted. -/
def clE : Unit ⊕ Bool ⊕ Tri ⊕ Tri ≃ Cl where
  toFun
    | .inl _ => .bar
    | .inr (.inl ρ) => .credit ρ
    | .inr (.inr (.inl t)) => .send t.1 t.2.1 t.2.2
    | .inr (.inr (.inr t)) => .recv t.1 t.2.1 t.2.2
  invFun
    | .bar => .inl ()
    | .credit ρ => .inr (.inl ρ)
    | .send ρ s j => .inr (.inr (.inl (ρ, s, j)))
    | .recv ρ s j => .inr (.inr (.inr (ρ, s, j)))
  left_inv := by rintro (_ | _ | _ | _) <;> rfl
  right_inv := by rintro (_ | _ | _ | _) <;> rfl

instance : Fintype Cl := Fintype.ofEquiv _ clE

/-- Where a semaphore of the protocol is. -/
def semOf : Cl → SemLoc sig
  | .bar => .reg barS
  | .credit ρ => .reg (crS ρ)
  | .send ρ s j => .dma (sSem ρ s j)
  | .recv ρ s j => .dma (rSem ρ s j)

set_option maxRecDepth 20000 in
theorem semOf_injective : Function.Injective semOf := by
  have h : ∀ a b, semOf a = semOf b → a = b := by decide +kernel
  exact fun a b => h a b

/-- Device `d`'s semaphore `i`. -/
def cell (d : Dev nD) (i : Cl) : GSem nD τ sig := ((d : Thread nD τ), semOf i)

theorem cell_inj {d d' : Dev nD} {i i' : Cl} (h : cell d i = cell d' i') : d = d' ∧ i = i' :=
  ⟨congrArg (fun g : GSem nD τ sig => g.1.1) h, semOf_injective (congrArg Prod.snd h)⟩

/-- Which semaphore of the protocol one is, if any. -/
def roleOf (s : SemLoc sig) : Option Cl := Function.partialInv semOf s

theorem roleOf_semOf (i : Cl) : roleOf (semOf i) = some i := Function.partialInv_left semOf_injective i

/-- What one transfer pays. -/
def N : ℕ := (slotM false 0 0).view.dmaCredit
theorem N_pos : 0 < N := View.dmaCredit_pos _ (by decide)
theorem credit_eq (ρ : Bool) (s j : Fin 2) : (slotM ρ s j).view.dmaCredit = N := by cases ρ <;> rfl

/-! ## The values -/

variable (X : Dev nD → (cc0_stg0_0 : Ref sig .tc).ty.Contents (Elt F)) (Y : Dev nD → (cc0_stg1_0 : Ref sig .tc).ty.Contents (Elt F))

/-- Device `d`'s product for transfer `k` of ring `ρ`'s half `j`. -/
def prodAt (ρ : Bool) (j : Fin 2) (d : Dev nD) (k : ℕ) : IVec S256x2048 32 :=
  part (F := F) (xM.view.readAt (Elt F) (rowRect ρ d k).toLoadRect (X d))
    (wM.view.readAt (Elt F) (colRect ρ j).toLoadRect (Y d))

/-- The sum device `d` sends on as transfer `k`: its own product and what arrived. -/
def sumAt (ρ : Bool) (j : Fin 2) : ℕ → Dev nD → IVec S256x2048 32
  | 0, d => prodAt X Y ρ j d 0
  | k + 1, d => addi (sumAt ρ j k (src ρ d)) (prodAt X Y ρ j d (k + 1))

/-! ## What is held of the buffers -/

/-- Slot `s`, half `j`, of device `d`'s ring `ρ`, at any contents. -/
def slotAny (d : Dev nD) (ρ : Bool) (s j : Fin 2) : sProp 𝕄 :=
  slot ((slotM ρ s j).view.loc (d : Thread nD τ)) (slotM ρ s j).view.set

/-- The same slot, holding the sum `v`. -/
def slotHas (d : Dev nD) (ρ : Bool) (s j : Fin 2) (v : IVec S256x2048 32) : sProp 𝕄 :=
  iprop(∃ f, ⌜(slotM ρ s j).view.read (Elt F) f = v⌝ ∗ (slotM ρ s j).view.loc (d : Thread nD τ) ↦[(slotM ρ s j).view.set]{fullShare} f)

omit [FloatOps F] in
theorem slotHas_any (d : Dev nD) (ρ : Bool) (s j : Fin 2) (v : IVec S256x2048 32) :
    (slotHas d ρ s j v : sProp 𝕄) ⊢ slotAny d ρ s j := by
  unfold slotHas slotAny slot
  iintro ⟨%f, -, H⟩
  iexists f
  iexact H

instance slotAny_storable (d : Dev nD) (ρ : Bool) (s j : Fin 2) : BI.Storable (upEmb : UEmb _ 𝕄) (slotAny (F := F) d ρ s j) := by
  unfold slotAny; infer_instance
instance slotHas_storable (d : Dev nD) (ρ : Bool) (s j : Fin 2) (v) : BI.Storable (upEmb : UEmb _ 𝕄) (slotHas (F := F) d ρ s j v) := by
  unfold slotHas; infer_instance

theorem slot_nonempty (ρ : Bool) (s j : Fin 2) : (slotM ρ s j).view.set.Nonempty :=
  ⟨_, View.emb_mem_set _ (Shape.Idx.first (by decide))⟩

omit [FloatOps F] in
theorem slotAny_excl (d : Dev nD) (ρ : Bool) (s j : Fin 2) :
    iprop(slotAny d ρ s j ∗ slotAny d ρ s j) ⊢ (False : sProp 𝕄) := slot_slot_false (slot_nonempty ρ s j)

/-! ## What is told along the rings -/

/-- That device `e` let go of the slot hop `i / 2` of half `i % 2` used, and is ready for what is to arrive there. -/
def fact (e : Dev nD) (ρ : Bool) (i : ℕ) : sProp 𝕄 :=
  iprop(released ES ((e, ρ, (sl i)), i / 2) 1 ∗ reached ER (cell e (.recv ρ (sl (i / 2)) (sl i))) ((i / 2 + 1) / 2))

/-- The first `n` of these. -/
def facts (e : Dev nD) (ρ : Bool) (n : ℕ) : sProp 𝕄 := bigSep (Finset.range n) (fact (F := F) e ρ)

instance fact_persistent (e : Dev nD) (ρ : Bool) (i : ℕ) : BI.Persistent (fact (F := F) e ρ i) := by
  unfold fact; infer_instance
instance fact_storable (e : Dev nD) (ρ : Bool) (i : ℕ) : BI.Storable (upEmb : UEmb _ 𝕄) (fact (F := F) e ρ i) := by
  unfold fact; infer_instance
instance facts_persistent (e : Dev nD) (ρ : Bool) (n : ℕ) : BI.Persistent (facts (F := F) e ρ n) := by
  unfold facts; infer_instance
instance facts_storable (e : Dev nD) (ρ : Bool) (n : ℕ) : BI.Storable (upEmb : UEmb _ 𝕄) (facts (F := F) e ρ n) := by
  unfold facts; infer_instance

/-- That device `e`'s ring `ρ` is ready to be sent to. -/
def ready (e : Dev nD) (ρ : Bool) : sProp 𝕄 :=
  iprop((slotAny e ρ 1 0 ∗ reached ER (cell e (.recv ρ 1 0)) 0) ∗ (slotAny e ρ 1 1 ∗ reached ER (cell e (.recv ρ 1 1)) 0))

instance ready_storable (e : Dev nD) (ρ : Bool) : BI.Storable (upEmb : UEmb _ 𝕄) (ready (F := F) e ρ) := by
  unfold ready; infer_instance

/-! ## The schedule -/

/-- The transfer that arrives in slot `s` in round `r`. -/
def arrival (s : Fin 2) (r : ℕ) : ℕ := 2 * r + (1 - s.val)

/-- The duties of a cell's rounds. -/
def dutiesC : Cl → ℕ → Finset ℕ
  | .bar, 0 => {0, 1}
  | .bar, _ + 1 => ∅
  | .credit _, 0 => Finset.range 28
  | .credit _, _ + 1 => ∅
  | .send _ s _, r => if 2 * r + s.val ≤ 14 then {0} else ∅
  | .recv _ s _, r => if arrival s r ≤ 14 then {0} else ∅

/-- What one duty of a cell pays. -/
def amountC : Cl → ℕ
  | .bar => 1
  | .credit _ => 1
  | .send _ _ _ => N
  | .recv _ _ _ => N

theorem amountC_send (ρ : Bool) (s j : Fin 2) : amountC (.send ρ s j) = N := rfl
theorem amountC_recv (ρ : Bool) (s j : Fin 2) : amountC (.recv ρ s j) = N := rfl
theorem amountC_pos (i : Cl) : 0 < amountC i := by
  cases i
  · exact Nat.one_pos
  · exact Nat.one_pos
  · exact N_pos
  · exact N_pos

/-- What one duty of a cell of device `d` hands over. -/
def payC (d : Dev nD) : Cl → ℕ → ℕ → sProp 𝕄
  | .bar, _, n => if n = 0 then ready (dst false d) false else ready (dst true d) true
  | .credit ρ, _, n => facts (dst ρ d) ρ (n + 1)
  | .send ρ s j, _, _ => slotAny d ρ s j
  | .recv ρ s j, r, _ => slotHas d ρ s j (sumAt X Y ρ j (arrival s r) (src ρ d))

instance payC_storable (d : Dev nD) (i : Cl) (r n : ℕ) : BI.Storable (upEmb : UEmb _ 𝕄) (payC (F := F) X Y d i r n) := by
  cases i <;> simp only [payC]
  · split <;> infer_instance
  all_goals infer_instance

/-- The schedule of all cells. -/
def Rd : Rounds.Schedule (GSem nD τ sig) ℕ 𝕄 where
  duties g r := match roleOf g.2 with
    | some i => dutiesC i r
    | none => ∅
  unitless _ := False
  amount g _ _ := match roleOf g.2 with
    | some i => amountC i
    | none => 1
  payload g r n := match roleOf g.2 with
    | some i => payC X Y g.1.1 i r n
    | none => iprop(emp)
  amount_pos g _ _ _ := by
    show 0 < (match roleOf g.2 with | some i => amountC i | none => 1)
    cases roleOf g.2 with
    | none => exact Nat.one_pos
    | some i => exact amountC_pos i

instance Rd_payload_storable (g : GSem nD τ sig) (r : ℕ) (n : ℕ) :
    BI.Storable (upEmb : UEmb _ 𝕄) ((Rd (F := F) X Y).payload g r n) := by
  show BI.Storable upEmb (match roleOf g.2 with | some i => payC X Y g.1.1 i r n | none => iprop(emp))
  split <;> infer_instance

theorem duties_cell (d : Dev nD) (i : Cl) (r : ℕ) : (Rd (F := F) X Y).duties (cell d i) r = dutiesC i r := by
  show (match roleOf (semOf i) with | some i => dutiesC i r | none => ∅) = _
  rw [roleOf_semOf]

theorem amount_cell (d : Dev nD) (i : Cl) (r n : ℕ) : (Rd (F := F) X Y).amount (cell d i) r n = amountC i := by
  show (match roleOf (semOf i) with | some i => amountC i | none => 1) = _
  rw [roleOf_semOf]

theorem payload_cell (d : Dev nD) (i : Cl) (r n : ℕ) : (Rd (F := F) X Y).payload (cell d i) r n = payC X Y d i r n := by
  show (match roleOf (semOf i) with | some i => payC X Y d i r n | none => iprop(emp)) = _
  rw [roleOf_semOf]

theorem expect_cell (d : Dev nD) (i : Cl) (r : ℕ) :
    (Rd (F := F) X Y).expect (cell d i) r = (dutiesC i r).card * amountC i := by
  unfold Schedule.expect Schedule.amountOf
  rw [duties_cell, Finset.sum_congr rfl fun n _ => amount_cell X Y d i r n, Finset.sum_const, smul_eq_mul]

theorem duties_send {k : ℕ} (hk : k ≤ 14) (ρ : Bool) (j : Fin 2) : dutiesC (.send ρ (sl k) j) (k / 2) = {0} :=
  if_pos (by show 2 * (k / 2) + k % 2 ≤ 14; omega)

theorem duties_recv {k : ℕ} (hk : k ≤ 14) (ρ : Bool) (j : Fin 2) : dutiesC (.recv ρ (sl (k + 1)) j) (k / 2) = {0} :=
  if_pos (by show 2 * (k / 2) + (1 - (k + 1) % 2) ≤ 14; omega)

theorem arrival_eq (k : ℕ) : arrival (sl (k + 1)) (k / 2) = k := by
  show 2 * (k / 2) + (1 - (k + 1) % 2) = k; omega

theorem expect_send {k : ℕ} (hk : k ≤ 14) (d : Dev nD) (ρ : Bool) (j : Fin 2) :
    (Rd (F := F) X Y).expect (cell d (.send ρ (sl k) j)) (k / 2) = N := by
  rw [expect_cell, duties_send hk, Finset.card_singleton, one_mul, amountC_send]

theorem expect_recv {k : ℕ} (hk : k ≤ 14) (d : Dev nD) (ρ : Bool) (j : Fin 2) :
    (Rd (F := F) X Y).expect (cell d (.recv ρ (sl (k + 1)) j)) (k / 2) = N := by
  rw [expect_cell, duties_recv hk, Finset.card_singleton, one_mul, amountC_recv]

theorem expect_credit (d : Dev nD) (ρ : Bool) : (Rd (F := F) X Y).expect (cell d (.credit ρ)) 0 = 28 := by
  rw [expect_cell]; rfl

theorem expect_bar (d : Dev nD) : (Rd (F := F) X Y).expect (cell d .bar) 0 = 2 := by
  rw [expect_cell]; rfl

theorem payload_send (d : Dev nD) (ρ : Bool) (s j : Fin 2) (r n : ℕ) :
    (Rd (F := F) X Y).payload (cell d (.send ρ s j)) r n = slotAny d ρ s j := payload_cell X Y d _ r n

theorem payload_recv (d : Dev nD) (ρ : Bool) (k : ℕ) (j : Fin 2) (n : ℕ) :
    (Rd (F := F) X Y).payload (cell d (.recv ρ (sl (k + 1)) j)) (k / 2) n = slotHas d ρ (sl (k + 1)) j (sumAt X Y ρ j k (src ρ d)) :=
  (payload_cell X Y d _ _ n).trans
    (congrArg (fun q => slotHas d ρ (sl (k + 1)) j (sumAt X Y ρ j q (src ρ d))) (arrival_eq k))

theorem payload_credit (d : Dev nD) (ρ : Bool) (r n : ℕ) :
    (Rd (F := F) X Y).payload (cell d (.credit ρ)) r n = facts (dst ρ d) ρ (n + 1) := payload_cell X Y d _ r n

theorem rest_send {k : ℕ} (hk : k ≤ 14) (d : Dev nD) (ρ : Bool) (j : Fin 2) :
    bigSep ((Rd (F := F) X Y).duties (cell d (.send ρ (sl k) j)) (k / 2) \ ∅)
      (fun n => (Rd (F := F) X Y).payload (cell d (.send ρ (sl k) j)) (k / 2) n) = slotAny d ρ (sl k) j := by
  rw [Finset.sdiff_empty, duties_cell, duties_send hk, bigSep_singleton, payload_send]

theorem rest_recv {k : ℕ} (hk : k ≤ 14) (d : Dev nD) (ρ : Bool) (j : Fin 2) :
    bigSep ((Rd (F := F) X Y).duties (cell d (.recv ρ (sl (k + 1)) j)) (k / 2) \ ∅)
      (fun n => (Rd (F := F) X Y).payload (cell d (.recv ρ (sl (k + 1)) j)) (k / 2) n)
      = slotHas d ρ (sl (k + 1)) j (sumAt X Y ρ j k (src ρ d)) := by
  rw [Finset.sdiff_empty, duties_cell, duties_recv hk, bigSep_singleton, payload_recv]

theorem rest_bar (d : Dev nD) :
    bigSep ((Rd (F := F) X Y).duties (cell d .bar) 0 \ ∅) (fun n => (Rd (F := F) X Y).payload (cell d .bar) 0 n)
      = iprop(ready (dst false d) false ∗ ready (dst true d) true) := by
  rw [Finset.sdiff_empty, duties_cell, show dutiesC .bar 0 = ({0, 1} : Finset ℕ) from rfl, bigSep_insert (by decide), bigSep_singleton,
    payload_cell, payload_cell]
  rfl

theorem duties_bar_later (d : Dev nD) : ∀ r, 1 ≤ r → (Rd (F := F) X Y).duties (cell d .bar) r = ∅ := fun r hr => by
  rw [duties_cell]; obtain ⟨r, rfl⟩ : ∃ q, r = q + 1 := ⟨r - 1, by omega⟩; rfl

theorem duties_credit_later (d : Dev nD) (ρ : Bool) : ∀ r, 1 ≤ r → (Rd (F := F) X Y).duties (cell d (.credit ρ)) r = ∅ := fun r hr => by
  rw [duties_cell]; obtain ⟨r, rfl⟩ : ∃ q, r = q + 1 := ⟨r - 1, by omega⟩; rfl

theorem duties_send_later (d : Dev nD) (ρ : Bool) (k : ℕ) (hk : 15 ≤ k) (j : Fin 2) :
    ∀ r, k / 2 ≤ r → (Rd (F := F) X Y).duties (cell d (.send ρ (sl k) j)) r = ∅ := fun r hr => by
  rw [duties_cell]; exact if_neg (by show ¬ 2 * r + k % 2 ≤ 14; omega)

theorem duties_recv_later (d : Dev nD) (ρ : Bool) (k : ℕ) (hk : 15 ≤ k) (j : Fin 2) :
    ∀ r, k / 2 ≤ r → (Rd (F := F) X Y).duties (cell d (.recv ρ (sl (k + 1)) j)) r = ∅ := fun r hr => by
  rw [duties_cell]; exact if_neg (by show ¬ 2 * r + (1 - (k + 1) % 2) ≤ 14; omega)

/-! ## Levels and dues -/

/-- The indices a TensorCore's cells are owed at; an index is its own level. -/
def L (g : GSem nD τ sig) : Finset ℕ := if g.1.2 = .tc then Finset.range 200 else ∅
def lv (g : GSem nD τ sig) (i : ℕ) : ℕ := i

theorem L_of_ne (g : GSem nD τ sig) (h : g.1.2 ≠ .tc) : L g = ∅ := if_neg h

/-- Step number of transfer `k` of ring `ρ`'s half `j`. -/
def tm (ρ : Bool) (j : Fin 2) (k : ℕ) : ℕ := 4 * k + 2 * j.val + ρ.toNat

/-- The ring, the half and the transfer of a step. -/
def ringOf (t : ℕ) : Bool := decide (t % 2 = 1)
def halfOf (t : ℕ) : Fin 2 := ⟨t / 2 % 2, Nat.mod_lt _ (by decide)⟩

theorem ringOf_tm (ρ : Bool) (j : Fin 2) (k : ℕ) : ringOf (tm ρ j k) = ρ := by
  unfold ringOf tm
  cases ρ
  · exact decide_eq_false (by show ¬ (4 * k + 2 * j.val + 0) % 2 = 1; omega)
  · exact decide_eq_true (by show (4 * k + 2 * j.val + 1) % 2 = 1; omega)
theorem halfOf_tm (ρ : Bool) (j : Fin 2) (k : ℕ) : halfOf (tm ρ j k) = j := by
  have hj := j.isLt
  refine Fin.ext ?_
  cases ρ
  · show (4 * k + 2 * j.val + 0) / 2 % 2 = j.val; omega
  · show (4 * k + 2 * j.val + 1) / 2 % 2 = j.val; omega
theorem div_tm (ρ : Bool) (j : Fin 2) (k : ℕ) : tm ρ j k / 4 = k := by
  have hj := j.isLt
  cases ρ
  · show (4 * k + 2 * j.val + 0) / 4 = k; omega
  · show (4 * k + 2 * j.val + 1) / 4 = k; omega
theorem tm_lt {ρ : Bool} {j : Fin 2} {k : ℕ} (hk : k ≤ 14) : tm ρ j k < 60 := by
  have hj := j.isLt
  cases ρ
  · show 4 * k + 2 * j.val + 0 < 60; omega
  · show 4 * k + 2 * j.val + 1 < 60; omega

/-- What a transfer owes its receiver, what a hop owes its sender. -/
def dueR (c : Dev nD) (ρ : Bool) (j : Fin 2) (k : ℕ) : CellTallies nD τ sig ℕ :=
  tallyAt (cell (dst ρ c) (.recv ρ (sl (k + 1)) j)) (2 * tm ρ j k + 11) N
def dueC (c : Dev nD) (ρ : Bool) (j : Fin 2) (k : ℕ) : CellTallies nD τ sig ℕ :=
  if k = 0 then 0 else tallyAt (cell (src ρ c) (.credit ρ)) (2 * tm ρ j k + 10) 1

/-- All a step owes. -/
def due (c : Dev nD) (t : ℕ) : CellTallies nD τ sig ℕ :=
  dueR c (ringOf t) (halfOf t) (t / 4) + dueC c (ringOf t) (halfOf t) (t / 4)

theorem due_tm (c : Dev nD) (ρ : Bool) (j : Fin 2) (k : ℕ) : due c (tm ρ j k) = dueR c ρ j k + dueC c ρ j k := by
  unfold due; rw [ringOf_tm, halfOf_tm, div_tm]

/-- What is owed from step `t` on. -/
def owedFrom (c : Dev nD) (t : ℕ) : CellTallies nD τ sig ℕ := ∑ i ∈ Finset.Ico t 60, due c i

theorem owedFrom_peel (c : Dev nD) {ρ : Bool} {j : Fin 2} {k : ℕ} (hk : k ≤ 14) :
    owedFrom c (tm ρ j k) = owedFrom c (tm ρ j k + 1) + dueR c ρ j k + dueC c ρ j k := by
  unfold owedFrom
  rw [show Finset.Ico (tm ρ j k) 60 = insert (tm ρ j k) (Finset.Ico (tm ρ j k + 1) 60) from Finset.ext fun i => by
      have h := tm_lt (ρ := ρ) (j := j) hk
      rw [Finset.mem_Ico, Finset.mem_insert, Finset.mem_Ico]; omega,
    Finset.sum_insert (by rw [Finset.mem_Ico]; omega), due_tm]
  exact (add_comm _ _).trans (add_assoc _ _ _).symm

theorem owedFrom_end (c : Dev nD) : owedFrom c 60 = 0 := by
  unfold owedFrom; rw [Finset.Ico_self]; exact Finset.sum_empty

/-- Everything in `O` is owed to a TensorCore's cell above level `b`. -/
def Above (b : ℕ) (O : CellTallies nD τ sig ℕ) : Prop := ∀ g i, 0 < O g i → g.1.2 = .tc ∧ b < i ∧ i < 200

theorem Above.add {b : ℕ} {O O' : CellTallies nD τ sig ℕ} (h : Above b O) (h' : Above b O') : Above b (O + O') := fun g i hi => by
  rw [Pi.add_apply, Finsupp.add_apply] at hi
  rcases Nat.eq_zero_or_pos (O g i) with h0 | h0
  · exact h' g i (by omega)
  · exact h g i h0

theorem Above.zero {b : ℕ} : Above b 0 := fun g i hi => absurd hi (Nat.lt_irrefl 0)

theorem Above.tally {b : ℕ} (d : Dev nD) (i : Cl) {ι n : ℕ} (h : b < ι) (h' : ι < 200) : Above b (tallyAt (cell d i) ι n) := fun g u hu => by
  rw [tallyAt_apply] at hu
  by_cases hg : g = cell d i ∧ u = ι
  · rw [hg.1, hg.2]; exact ⟨rfl, h, h'⟩
  · rw [if_neg hg] at hu; exact absurd hu (Nat.lt_irrefl 0)

theorem Above.sum {b : ℕ} (s : Finset ℕ) (f : ℕ → CellTallies nD τ sig ℕ) (h : ∀ t ∈ s, Above b (f t)) : Above b (∑ t ∈ s, f t) := by
  induction s using Finset.induction_on with
  | empty => exact Above.zero
  | insert t s ht ih =>
    rw [Finset.sum_insert ht]
    exact (h t (Finset.mem_insert_self _ _)).add (ih fun t' h' => h t' (Finset.mem_insert_of_mem h'))

theorem tm_of (t : ℕ) : tm (ringOf t) (halfOf t) (t / 4) = t := by
  unfold tm ringOf halfOf
  by_cases h : t % 2 = 1
  · rw [decide_eq_true h]; show 4 * (t / 4) + 2 * (t / 2 % 2) + 1 = t; omega
  · rw [decide_eq_false h]; show 4 * (t / 4) + 2 * (t / 2 % 2) + 0 = t; omega

theorem Above.due {b : ℕ} (c : Dev nD) {t : ℕ} (ht : t < 60) (h : b < 2 * t + 10) : Above b (due c t) := by
  unfold Own.due dueR dueC
  rw [tm_of]
  refine (Above.tally _ _ (by omega) (by omega)).add ?_
  split
  · exact Above.zero
  · exact Above.tally _ _ h (by omega)

theorem Above.owedFrom {b : ℕ} (c : Dev nD) {t : ℕ} (h : b < 2 * t + 10) : Above b (owedFrom c t) :=
  Above.sum _ _ fun i hi => Above.due c (Finset.mem_Ico.mp hi).2 (by have := (Finset.mem_Ico.mp hi).1; omega)

omit [FloatOps F] in
/-- A device may wait at a level below all it owes. -/
theorem mayWait (c : Dev nD) (sm : SemLoc sig) {ι : ℕ} {O : CellTallies nD τ sig ℕ} (hι : ι < 200) (h : Above ι O) :
    (levAts L lv : sProp 𝕄) ⊢ MayWait (c : Thread nD τ) sm ι O :=
  MayOwe.of_cut (L := L) (lev := lv) ι
    (fun p hp => by rw [Finset.mem_singleton.mp hp]; unfold L; rw [if_pos rfl]; exact Finset.mem_range.mpr hι)
    (fun g u hg => by unfold L; rw [if_pos (h g u hg).1]; exact Finset.mem_range.mpr (h g u hg).2.2)
    (fun p hp => by rw [Finset.mem_singleton.mp hp]; exact le_refl _)
    (fun g u hg => (h g u hg).2.1)

end Cert.KernelIdeal.Own
-- ==== Proof.Ops.lean ====
/- What the operations of a step do: the loads and stores of the slots, the transfers, the waits. -/
module

public import proofs.«01_k».proof.Proof.Proto

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

def 𝒱₀ : Variants := Variants.none

variable (X : Dev nD → (cc0_stg0_0 : Ref sig .tc).ty.Contents (Elt F)) (Y : Dev nD → (cc0_stg1_0 : Ref sig .tc).ty.Contents (Elt F))

/-- Device `c` running `p`, then `Q`. -/
abbrev WP (c : Dev nD) (p : Pr F) (Q : PUnit → sProp 𝕄) : sProp 𝕄 :=
  wp frame (wpE (defs₀ (F := F)) 𝒱₀ (c : Thread nD τ) none) Set.univ p Q

/-! ## Buffers -/

def xPts (c : Dev nD) : sProp 𝕄 := (xM : Memref sig .tc .vmem S4096x256 .i8).view.loc (c : Thread nD τ) ↦[xM.view.set]{fullShare} X c
def wPts (c : Dev nD) : sProp 𝕄 := (wM : Memref sig .tc .vmem S256x8192 .i8).view.loc (c : Thread nD τ) ↦[wM.view.set]{fullShare} Y c

theorem load_x (c : Dev nD) {ρ : Bool} {k : ℕ} {hl} {K : (S256x256.Idx → Elt F .i8) → Pr F} {Q : PUnit → sProp 𝕄} :
    xPts X c ⊢ iprop((xPts X c -∗ WP c (K (xM.view.readAt (Elt F) (rowRect ρ c k).toLoadRect (X c))) Q)
      -∗ WP c (.op (.load xM (rowRect ρ c k).toLoadRect hl) K) Q) :=
  wp_load_rect 𝒱₀ (c : Thread nD τ) none Set.univ (m := xM) (r := rowRect ρ c k) (by rw [View.set_whole]; exact Finset.subset_univ _)

theorem load_w (c : Dev nD) {ρ : Bool} {j : Fin 2} {hl} {K : (S256x2048.Idx → Elt F .i8) → Pr F} {Q : PUnit → sProp 𝕄} :
    wPts Y c ⊢ iprop((wPts Y c -∗ WP c (K (wM.view.readAt (Elt F) (colRect ρ j).toLoadRect (Y c))) Q)
      -∗ WP c (.op (.load wM (colRect ρ j).toLoadRect hl) K) Q) :=
  wp_load_rect 𝒱₀ (c : Thread nD τ) none Set.univ (m := wM) (r := colRect ρ j) (by rw [View.set_whole]; exact Finset.subset_univ _)

theorem slot_set (ρ : Bool) (s j : Fin 2) : (slotM ρ s j).view.set = ((commM ρ).access (slotRect s j)).set :=
  View.set_reshape _ _

theorem load_slot (c : Dev nD) {ρ : Bool} {s j : Fin 2} {v : IVec S256x2048 32} {hl} {K : (S1x1x256x2048.Idx → Elt F .i32) → Pr F}
    {Q : PUnit → sProp 𝕄} :
    (slotHas c ρ s j v : sProp 𝕄) ⊢ iprop((∀ x : Vec F S1x1x256x2048 .i32, ⌜shapeCast S256x2048 x shapeCasts_S1x1x256x2048_S256x2048 = v⌝
        -∗ slotHas c ρ s j v -∗ WP c (K x) Q)
      -∗ WP c (.op (.load (commM ρ) (slotRect s j).toLoadRect hl) K) Q) := by
  unfold slotHas
  iintro ⟨%f, %hf, H⟩ HK
  iapply (wp_load_rect 𝒱₀ (c : Thread nD τ) none Set.univ (m := commM ρ) (r := slotRect s j) (S := (slotM ρ s j).view.set) (f := f)
    (by rw [slot_set])) $$ H
  iintro H
  iapply HK $$ %_ [] [H]
  · ipureintro; exact hf
  · iexists f
    isplitr; · ipureintro; exact hf
    iexact H

theorem load_slot_any (c : Dev nD) {ρ : Bool} {s j : Fin 2} {hl} {K : (S1x1x256x2048.Idx → Elt F .i32) → Pr F}
    {Q : PUnit → sProp 𝕄} :
    (slotAny c ρ s j : sProp 𝕄) ⊢ iprop((∀ x : Vec F S1x1x256x2048 .i32, slotAny c ρ s j -∗ WP c (K x) Q)
      -∗ WP c (.op (.load (commM ρ) (slotRect s j).toLoadRect hl) K) Q) := by
  unfold slotAny slot
  iintro ⟨%f, H⟩ HK
  iapply (wp_load_rect 𝒱₀ (c : Thread nD τ) none Set.univ (m := commM ρ) (r := slotRect s j) (S := (slotM ρ s j).view.set) (f := f)
    (by rw [slot_set])) $$ H
  iintro H
  iapply HK $$ %_ [H]
  iexists f
  iexact H

omit [FloatOps F] in
/-- Reading a slot back after a store into it. -/
theorem read_stored (ρ : Bool) (s j : Fin 2) (f : (commM ρ).view.ty.Contents (Elt F)) (v : IVec S256x2048 32) :
    (slotM ρ s j).view.read (Elt F) (((commM ρ).access (slotRect s j)).write (Elt F) f
      (shapeCast S1x1x256x2048 v shapeCasts_S256x2048_S1x1x256x2048 : Vec F S1x1x256x2048 .i32) Finset.univ) = v := by
  have h : ((commM ρ).access (slotRect s j)).read (Elt F) (((commM ρ).access (slotRect s j)).write (Elt F) f
      (shapeCast S1x1x256x2048 v shapeCasts_S256x2048_S1x1x256x2048 : Vec F S1x1x256x2048 .i32) Finset.univ)
      = shapeCast S1x1x256x2048 v shapeCasts_S256x2048_S1x1x256x2048 :=
    funext fun x => View.read_write_of_mem _ _ (Finset.mem_univ _)
  funext x
  refine (congrFun h (Shape.reshapeEquiv _ x)).trans ?_
  show v (Shape.reshapeEquiv _ (Shape.reshapeEquiv _ x)) = v x
  rw [Shape.reshapeEquiv_reshapeEquiv, Shape.reshapeEquiv_self]

theorem store_slot (c : Dev nD) {ρ : Bool} {s j : Fin 2} {v : IVec S256x2048 32} {hx hm} {K : PUnit → Pr F} {Q : PUnit → sProp 𝕄} :
    (slotAny c ρ s j : sProp 𝕄) ⊢ iprop((slotHas c ρ s j v -∗ WP c (K ⟨⟩) Q)
      -∗ WP c (.op (.store (commM ρ) (slotRect s j) (shapeCast S1x1x256x2048 v shapeCasts_S256x2048_S1x1x256x2048) Finset.univ hx hm) K) Q) := by
  unfold slotAny slot slotHas
  iintro ⟨%f, H⟩ HK
  iapply (wp_store 𝒱₀ (c : Thread nD τ) none Set.univ (m := commM ρ) (r := slotRect s j) (S := (slotM ρ s j).view.set) (f := f)
    (by rw [slot_set]; exact Finset.Subset.refl _)) $$ H
  iintro H
  iapply HK
  iexists _
  isplitr
  · ipureintro; exact read_stored ρ s j f v
  · iexact H

/-! ## What every step may use -/

/-- The keys of the releases. -/
def keys : Finset Key := Finset.univ ×ˢ Finset.range 14

/-- The slot a key is about. -/
def keySlot (k : Key) : sProp 𝕄 := slotAny k.1.1 k.1.2.1 (sl k.2) k.1.2.2

instance keySlot_storable (k : Key) : BI.Storable (upEmb : UEmb _ 𝕄) (keySlot (F := F) k) := by unfold keySlot; infer_instance

variable (K : Dev nD × Cl → ℕ) (J : Key → ℕ)

/-- The cells' invariants, the slots' invariants, the levels. -/
def Ctx : sProp 𝕄 :=
  iprop((bigSep Finset.univ fun q : Dev nD × Cl => cellInv ER (Rd X Y) (K q) (cell q.1 q.2))
    ∗ (bigSep keys fun k => slotInv ES (J k) k (keySlot k)) ∗ levAts L lv)

instance Ctx_persistent : BI.Persistent (Ctx (F := F) X Y K J) := by unfold Ctx; infer_instance

theorem Ctx_cell (d : Dev nD) (i : Cl) : Ctx (F := F) X Y K J ⊢ cellInv ER (Rd X Y) (K (d, i)) (cell d i) := by
  unfold Ctx
  iintro ⟨H, -, -⟩
  have h : (bigSep Finset.univ fun q : Dev nD × Cl => (cellInv ER (Rd (F := F) X Y) (K q) (cell q.1 q.2) : sProp 𝕄))
      ⊢ cellInv ER (Rd X Y) (K (d, i)) (cell d i) := bigSep_elim (Finset.mem_univ (d, i))
  iapply h
  iexact H

theorem Ctx_slot (d : Dev nD) (ρ : Bool) (j : Fin 2) {h : ℕ} (hh : h < 14) :
    Ctx (F := F) X Y K J ⊢ slotInv ES (J ((d, ρ, j), h)) ((d, ρ, j), h) (slotAny d ρ (sl h) j) := by
  unfold Ctx
  iintro ⟨-, H, -⟩
  have h' : (bigSep keys fun k => (slotInv ES (J k) k (keySlot (F := F) k) : sProp 𝕄))
      ⊢ slotInv ES (J ((d, ρ, j), h)) ((d, ρ, j), h) (slotAny d ρ (sl h) j) :=
    bigSep_elim (i := ((d, ρ, j), h)) (Finset.mem_product.mpr ⟨Finset.mem_univ _, Finset.mem_range.mpr hh⟩)
  iapply h'
  iexact H

theorem Ctx_mayWait (c : Dev nD) (sm : SemLoc sig) {ι : ℕ} {O : CellTallies nD τ sig ℕ} (hι : ι < 200) (h : Above ι O) :
    Ctx (F := F) X Y K J ⊢ MayWait (c : Thread nD τ) sm ι O := by
  unfold Ctx
  iintro ⟨-, -, H⟩
  iapply (mayWait c sm hι h)
  iexact H

/-! ## Transfers and waits -/

/-- What transfer `k` needs of the duties, and the receiver's claim to the one that arrives as `k`. -/
def sendTok (c : Dev nD) (ρ : Bool) (j : Fin 2) (k : ℕ) : sProp 𝕄 :=
  iprop(dutyTok ER (cell c (.send ρ (sl k) j)) (k / 2) 0 ∗ dutyTok ER (cell (dst ρ c) (.recv ρ (sl (k + 1)) j)) (k / 2) 0
    ∗ cred (tallyAt (cell c (.recv ρ (sl (k + 1)) j)) (2 * tm ρ j k + 11) N))

/-- What hop `h` needs to give its credit and to take one. -/
def credTok (c : Dev nD) (ρ : Bool) (j : Fin 2) (h : ℕ) : sProp 𝕄 :=
  iprop(dutyTok ER (cell (src ρ c) (.credit ρ)) 0 (2 * h + j.val) ∗ cred (tallyAt (cell c (.credit ρ)) (2 * tm ρ j (h + 1) + 10) 1)
    ∗ readerAt ES ((c, ρ, j), h) 0 ∗ writeTok ES ((dst ρ c, ρ, j), h) 1)

/-- The claims to what is in flight of half `j` of ring `ρ` after transfer `k`. -/
def flying (c : Dev nD) (ρ : Bool) (j : Fin 2) (k : ℕ) : sProp 𝕄 :=
  iprop(cred (tallyAt (cell c (.send ρ (sl k) j)) 0 N) ∗ cred (tallyAt (cell c (.recv ρ (sl (k + 1)) j)) (2 * tm ρ j k + 11) N))

omit [FloatOps F] in
theorem landed_eq (ρ : Bool) (s s' j : Fin 2) (fd : (slotM ρ s' j).view.ty.Contents (Elt F)) (v : IVec S256x2048 32) :
    (slotM ρ s' j).view.read (Elt F) ((slotM ρ s' j).view.write (Elt F) fd v Finset.univ) = v :=
  funext fun x => View.read_write_of_mem _ _ (Finset.mem_univ _)

set_option maxHeartbeats 1000000 in
/-- Transfer `k`: the slot goes, the receiver's slot with it, what was owed the receiver is paid. -/
theorem send_spec (c : Dev nD) {ρ : Bool} {j : Fin 2} {k : ℕ} (hk : k ≤ 14) {O : CellTallies nD τ sig ℕ} {W : Waits sig ℕ}
    {next : Pr F} {Q : PUnit → sProp 𝕄} :
    iprop(Ctx X Y K J ∗ slotHas c ρ (sl k) j (sumAt X Y ρ j k c) ∗ slotAny (dst ρ c) ρ (sl (k + 1)) j
        ∗ owes (c : Thread nD τ) (O + dueR c ρ j k) W ∗ sendTok c ρ j k
        ∗ reached ER (cell c (.send ρ (sl k) j)) (k / 2) ∗ reached ER (cell (dst ρ c) (.recv ρ (sl (k + 1)) j)) (k / 2))
      ⊢ iprop((flying c ρ j k ∗ owes (c : Thread nD τ) O W -∗ WP c next Q) -∗ WP c (sendP ρ c k j next) Q) := by
  unfold sendTok slotHas slotAny slot sendP
  iintro ⟨#HC, ⟨%fs, %hfs, Hs⟩, ⟨%fd, Hd⟩, HO, ⟨Ht1, Ht2, Hcr⟩, #Hr1, #Hr2⟩ HK
  ihave #I1 := (Ctx_cell X Y K J c (.send ρ (sl k) j)) $$ HC
  ihave #I2 := (Ctx_cell X Y K J (dst ρ c) (.recv ρ (sl (k + 1)) j)) $$ HC
  iapply (Rounds.wp_send_pointsTo 𝒱₀ ER (Rd (F := F) X Y) (c : Thread nD τ) none (c' := ((dst ρ c : Dev nD) : Thread nD τ))
    (src := slotM ρ (sl k) j) (dst := slotM ρ (sl (k + 1)) j) (κ₁ := K (c, .send ρ (sl k) j)) (κ₂ := K (dst ρ c, .recv ρ (sl (k + 1)) j))
    (sS := .dma (sSem ρ (sl k) j)) (sem := .dma (rSem ρ (sl (k + 1)) j)) (r₁ := k / 2) (r₂ := k / 2) (d₁ := 0) (d₂ := 0) (fs := fs) (fd := fd)
    (q := fullShare)
    (show 0 ∈ (Rd (F := F) X Y).duties (cell c (.send ρ (sl k) j)) (k / 2) by rw [duties_cell, duties_send hk]; exact Finset.mem_singleton_self _)
    (show 0 ∈ (Rd (F := F) X Y).duties (cell (dst ρ c) (.recv ρ (sl (k + 1)) j)) (k / 2) by
      rw [duties_cell, duties_recv hk]; exact Finset.mem_singleton_self _)
    (2 * tm ρ j k + 11) 0 N (credit_eq ρ (sl (k + 1)) j)
    (show (Rd (F := F) X Y).amount (cell c (.send ρ (sl k) j)) (k / 2) 0 = N from amount_cell X Y c _ _ _)
    (show (Rd (F := F) X Y).amount (cell (dst ρ c) (.recv ρ (sl (k + 1)) j)) (k / 2) 0 = N from amount_cell X Y _ _ _ _)
    O rfl (W := W)
    (show _ ⊢ (Rd (F := F) X Y).payload (cell c (.send ρ (sl k) j)) (k / 2) 0 by
      rw [payload_send]; unfold slotAny slot; iintro H; iexists fs; iexact H)
    (show _ ⊢ (Rd (F := F) X Y).payload (cell (dst ρ c) (.recv ρ (sl (k + 1)) j)) (k / 2) 0 by
      rw [payload_recv, src_dst]; unfold slotHas; iintro H; iexists _
      isplitr
      · ipureintro; exact (landed_eq ρ (sl k) (sl (k + 1)) j fd _).trans hfs
      · iexact H)) $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply HK
  isplitl [Hc Hcr]
  · unfold flying
    isplitl [Hc]; · iexact Hc
    iexact Hcr
  · iexact HO

set_option maxHeartbeats 1000000 in
/-- The waits of hop `k`: the slot sent is back, and the other holds the neighbour's sum. -/
theorem waits_spec (c : Dev nD) {ρ : Bool} {j : Fin 2} {k : ℕ} (hk : k ≤ 14) {O : CellTallies nD τ sig ℕ} {W : Waits sig ℕ}
    (hO : Above (2 * tm ρ j k + 11) O) {next : Pr F} {Q : PUnit → sProp 𝕄} :
    iprop(Ctx X Y K J ∗ flying c ρ j k ∗ owes (c : Thread nD τ) O W
        ∗ atPos ER (cell c (.send ρ (sl k) j)) (k / 2) ∅ 0 ∗ atPos ER (cell c (.recv ρ (sl (k + 1)) j)) (k / 2) ∅ 0)
      ⊢ iprop(((∃ W', owes (c : Thread nD τ) O W')
          ∗ (atPos ER (cell c (.send ρ (sl k) j)) (k / 2 + 1) ∅ 0 ∗ reached ER (cell c (.send ρ (sl k) j)) (k / 2 + 1))
          ∗ (atPos ER (cell c (.recv ρ (sl (k + 1)) j)) (k / 2 + 1) ∅ 0 ∗ reached ER (cell c (.recv ρ (sl (k + 1)) j)) (k / 2 + 1))
          ∗ slotAny c ρ (sl k) j ∗ slotHas c ρ (sl (k + 1)) j (sumAt X Y ρ j k (src ρ c)) -∗ WP c next Q)
        -∗ WP c (waitsP k j ρ next) Q) := by
  have ht := tm_lt (ρ := ρ) (j := j) hk
  have e1 : bigSep ((Rd (F := F) X Y).duties ((c : Thread nD τ), .dma (sSem ρ (sl k) j)) (k / 2) \ ∅)
      (fun n => (Rd (F := F) X Y).payload ((c : Thread nD τ), .dma (sSem ρ (sl k) j)) (k / 2) n) = slotAny c ρ (sl k) j :=
    rest_send X Y hk c ρ j
  have e2 : bigSep ((Rd (F := F) X Y).duties ((c : Thread nD τ), .dma (rSem ρ (sl (k + 1)) j)) (k / 2) \ ∅)
      (fun n => (Rd (F := F) X Y).payload ((c : Thread nD τ), .dma (rSem ρ (sl (k + 1)) j)) (k / 2) n)
      = slotHas c ρ (sl (k + 1)) j (sumAt X Y ρ j k (src ρ c)) := rest_recv X Y hk c ρ j
  unfold flying waitsP
  iintro ⟨#HC, ⟨Hc1, Hc2⟩, HO, Ha1, Ha2⟩ HK
  ihave #I1 := (Ctx_cell X Y K J c (.send ρ (sl k) j)) $$ HC
  ihave #I2 := (Ctx_cell X Y K J c (.recv ρ (sl (k + 1)) j)) $$ HC
  ihave #M1 := (Ctx_mayWait X Y K J c (.dma (sSem ρ (sl k) j)) (ι := 0) (O := O) (by omega)
    (fun g i hi => ⟨(hO g i hi).1, by have := (hO g i hi).2; omega⟩)) $$ HC
  ihave #M2 := (Ctx_mayWait X Y K J c (.dma (rSem ρ (sl (k + 1)) j)) (by omega) hO) $$ HC
  iapply (Rounds.wp_wait_rest_token 𝒱₀ ER (Rd (F := F) X Y) (c : Thread nD τ) none (κ := K (c, .send ρ (sl k) j))
      (sm := .dma (sSem ρ (sl k) j)) (wpE_waitDma2_eq 𝒱₀ (c : Thread nD τ) none Set.univ) (Set.mem_univ _) 0 (O := O)
      (W := W) (R := k / 2) (m := 0) (T := ∅)
      ((Nat.zero_add _).trans ((credit_eq ρ _ j).trans (expect_send X Y hk c ρ j).symm))) $$ [Hc1 HO Ha1]
  · isplitr; · iexact I1
    isplitl [Hc1]; · rw [credit_eq]; iexact Hc1
    isplitl [HO]; · iexact HO
    isplitr; · iexact M1
    iexact Ha1
  iintro ⟨HO, Ha1, #Hr1, Hpay⟩
  ihave Hs := (Entails.of_eq e1) $$ Hpay
  iapply (Rounds.wp_wait_rest_token 𝒱₀ ER (Rd (F := F) X Y) (c : Thread nD τ) none (κ := K (c, .recv ρ (sl (k + 1)) j))
      (sm := .dma (rSem ρ (sl (k + 1)) j)) (wpE_waitDma2_eq 𝒱₀ (c : Thread nD τ) none Set.univ) (Set.mem_univ _) (2 * tm ρ j k + 11) (O := O)
      (W := insert (SemLoc.dma (sSem ρ (sl k) j), 0) W) (R := k / 2) (m := 0) (T := ∅)
      ((Nat.zero_add _).trans ((credit_eq ρ _ j).trans (expect_recv X Y hk c ρ j).symm))) $$ [Hc2 HO Ha2]
  · isplitr; · iexact I2
    isplitl [Hc2]; · rw [credit_eq]; iexact Hc2
    isplitl [HO]; · iexact HO
    isplitr; · iexact M2
    iexact Ha2
  iintro ⟨HO, Ha2, #Hr2, Hpay⟩
  ihave Hd := (Entails.of_eq e2) $$ Hpay
  iapply HK
  isplitl [HO]; · iexists _; iexact HO
  isplitl [Ha1]; · isplitl [Ha1]; · iexact Ha1
                   iexact Hr1
  isplitl [Ha2]; · isplitl [Ha2]; · iexact Ha2
                   iexact Hr2
  isplitl [Hs]; · iexact Hs
  iexact Hd

end Cert.KernelIdeal.Own
-- ==== Proof.Hops.lean ====
/- One hop of one half of one ring, the first step of it and the last. -/
module

public import proofs.«01_k».proof.Proof.Ops
public import Idealize.SL.BI.BigOpNat

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))
variable (K : Dev nD × Cl → ℕ) (J : Key → ℕ)

/-! ## Credits -/

/-- Device `c`'s credits on ring `ρ` after `n` hops of it: what it got, and what it told so far. -/
def ringSt (c : Dev nD) (ρ : Bool) (n : ℕ) : sProp 𝕄 :=
  iprop(∃ S : Finset ℕ, ⌜S ⊆ Finset.range 28 ∧ n ≤ S.card⌝ ∗ atPos ER (cell c (.credit ρ)) 0 S n
    ∗ (bigSep S fun i => facts (dst ρ c) ρ (i + 1)) ∗ facts c ρ n)

theorem fact_eq (e : Dev nD) (ρ : Bool) (j : Fin 2) (h : ℕ) :
    fact (F := F) e ρ (2 * h + j.val)
      = iprop(released ES ((e, ρ, j), h) 1 ∗ reached ER (cell e (.recv ρ (sl h) j)) ((h + 1) / 2)) := by
  have hj := j.isLt
  unfold fact
  rw [show (2 * h + j.val) / 2 = h by omega, show sl (2 * h + j.val) = j from Fin.ext (by show (2 * h + j.val) % 2 = j.val; omega)]

theorem facts_succ (e : Dev nD) (ρ : Bool) (n : ℕ) :
    iprop(fact e ρ n ∗ facts e ρ n) ⊢ facts (F := F) e ρ (n + 1) := by
  unfold facts
  rw [bigSep_range_succ]

theorem facts_get (e : Dev nD) (ρ : Bool) {n i : ℕ} (h : i < n) : facts (F := F) e ρ n ⊢ fact e ρ i :=
  bigSep_elim (Finset.mem_range.mpr h)

/-- Of `n + 1` numbers one is at least `n`: so `n + 1` credits tell of the first `n + 1` releases. -/
theorem heard (e : Dev nD) (ρ : Bool) (S : Finset ℕ) (n : ℕ) (h : n + 1 ≤ S.card) :
    (bigSep S fun i => facts (F := F) e ρ (i + 1)) ⊢ fact e ρ n := by
  obtain ⟨i, hi, hn⟩ : ∃ i ∈ S, n ≤ i := by
    by_contra hc
    have hs : S ⊆ Finset.range n := fun i hi => Finset.mem_range.mpr (by
      by_contra hl
      exact hc ⟨i, hi, Nat.le_of_not_lt hl⟩)
    have := Finset.card_le_card hs
    rw [Finset.card_range] at this
    omega
  have h' : (bigSep S fun i => facts (F := F) e ρ (i + 1)) ⊢ facts e ρ (i + 1) := bigSep_elim hi
  exact h'.trans (facts_get e ρ (by omega))

set_option maxHeartbeats 1000000 in
/-- The credit of hop `h`: the slot is let go of and the sender told. -/
theorem give_spec (c : Dev nD) {ρ : Bool} {j : Fin 2} {h : ℕ} (hh : h < 14) {O : CellTallies nD τ sig ℕ} {W : Waits sig ℕ}
    {next : PUnit → Pr F} {Q : PUnit → sProp 𝕄} :
    iprop(Ctx X Y K J ∗ slotAny c ρ (sl h) j ∗ readerAt ES ((c, ρ, j), h) 0
        ∗ reached ER (cell c (.recv ρ (sl h) j)) ((h + 1) / 2) ∗ facts c ρ (2 * h + j.val)
        ∗ dutyTok ER (cell (src ρ c) (.credit ρ)) 0 (2 * h + j.val) ∗ reached ER (cell (src ρ c) (.credit ρ)) 0
        ∗ owes (c : Thread nD τ) (O + dueC c ρ j (h + 1)) W)
      ⊢ iprop((facts c ρ (2 * h + j.val + 1) ∗ owes (c : Thread nD τ) O W -∗ WP c (next ⟨⟩) Q)
        -∗ WP c (.op (.semSignal (src ρ c, .tc) (crS ρ) ((1 : ℕ) : Int)) next) Q) := by
  have hj := j.isLt
  have hdue : dueC c ρ j (h + 1) = tallyAt (cell (src ρ c) (.credit ρ)) (2 * tm ρ j (h + 1) + 10) 1 := if_neg (Nat.succ_ne_zero h)
  iintro ⟨#HC, Hs, Hr, #HV, #HF, Ht, #HR, HO⟩ HK
  ihave #I := (Ctx_cell X Y K J (src ρ c) (.credit ρ)) $$ HC
  ihave #IS := (Ctx_slot X Y K J c ρ j hh) $$ HC
  imod (slot_release ES (Set.mem_univ (J ((c, ρ, j), h))) (slotAny_excl c ρ (sl h) j) 0) $$ [Hr Hs] with ⟨-, #Hrel⟩
  · isplitr; · iexact IS
    isplitl [Hr]; · iexact Hr
    iexact Hs
  ihave #HF' := (facts_succ c ρ (2 * h + j.val)) $$ []
  · isplitr
    · rw [fact_eq]
      isplitr; · iexact Hrel
      iexact HV
    · iexact HF
  iapply (Rounds.wp_signal 𝒱₀ ER (Rd (F := F) X Y) (c : Thread nD τ) none (dst := ((src ρ c : Dev nD) : Thread nD τ)) (sem := crS ρ)
      (κ := K (src ρ c, .credit ρ)) (r := 0) (d := 2 * h + j.val)
      (show 2 * h + j.val ∈ (Rd (F := F) X Y).duties (cell (src ρ c) (.credit ρ)) 0 by
        rw [duties_cell]; exact Finset.mem_range.mpr (by omega))
      (show (Rd (F := F) X Y).amount (cell (src ρ c) (.credit ρ)) 0 (2 * h + j.val) = 1 from amount_cell X Y _ _ _ _)
      (2 * tm ρ j (h + 1) + 10) O (congrArg (O + ·) hdue)) $$ [HO Ht]
  · isplitr; · iexact I
    isplitl [HO]; · iexact HO
    isplitl [Ht]; · iexact Ht
    isplitr
    · have e : (Rd (F := F) X Y).payload ((src ρ c : Thread nD τ), .reg (crS ρ)) 0 (2 * h + j.val) = facts c ρ (2 * h + j.val + 1) :=
        (payload_credit X Y (src ρ c) ρ 0 _).trans (by rw [dst_src])
      rw [e]; iexact HF'
    · iexact HR
  iintro HO
  iapply HK
  isplitr; · iexact HF'
  iexact HO

set_option maxHeartbeats 1000000 in
/-- The wait for the receiver's credit: the slot the next transfer writes is handed over. -/
theorem take_spec (c : Dev nD) {ρ : Bool} {j : Fin 2} {h : ℕ} (hh : h < 14) {O : CellTallies nD τ sig ℕ} {W : Waits sig ℕ}
    (hO : Above (2 * tm ρ j (h + 1) + 10) O) {S : Finset ℕ} {next : PUnit → Pr F} {Q : PUnit → sProp 𝕄} :
    iprop(Ctx X Y K J ∗ cred (tallyAt (cell c (.credit ρ)) (2 * tm ρ j (h + 1) + 10) 1) ∗ owes (c : Thread nD τ) O W
        ∗ atPos ER (cell c (.credit ρ)) 0 S (2 * h + j.val) ∗ (bigSep S fun i => facts (dst ρ c) ρ (i + 1))
        ∗ writeTok ES ((dst ρ c, ρ, j), h) 1)
      ⊢ iprop(((∃ S' : Finset ℕ, ⌜S' ⊆ Finset.range 28 ∧ 2 * h + j.val + 1 ≤ S'.card⌝ ∗ atPos ER (cell c (.credit ρ)) 0 S' (2 * h + j.val + 1)
            ∗ (bigSep S' fun i => facts (dst ρ c) ρ (i + 1)))
          ∗ slotAny (dst ρ c) ρ (sl h) j ∗ reached ER (cell (dst ρ c) (.recv ρ (sl h) j)) ((h + 1) / 2)
          ∗ (∃ W', owes (c : Thread nD τ) O W') -∗ WP c (next ⟨⟩) Q)
        -∗ WP c (.op (.semWait (crS ρ) ((1 : ℕ) : Int)) next) Q) := by
  have hj := j.isLt
  have ht := tm_lt (ρ := ρ) (j := j) (show h + 1 ≤ 14 by omega)
  iintro ⟨#HC, Hcr, HO, Ha, #HS, Hw⟩ HK
  ihave #I := (Ctx_cell X Y K J c (.credit ρ)) $$ HC
  ihave #IS := (Ctx_slot X Y K J (dst ρ c) ρ j hh) $$ HC
  ihave #M := (Ctx_mayWait X Y K J c (.reg (crS ρ)) (by omega) hO) $$ HC
  iapply (Rounds.wp_wait 𝒱₀ ER (Rd (F := F) X Y) (c : Thread nD τ) none (κ := K (c, .credit ρ))
      (sm := .reg (crS ρ)) (wpE_semWait_eq 𝒱₀ (c : Thread nD τ) none Set.univ) (Set.mem_univ _)
      (cr := Finsupp.single (2 * tm ρ j (h + 1) + 10) 1) (O := O) (W := W) {(SemLoc.reg (crS ρ), 2 * tm ρ j (h + 1) + 10)} (R := 0)
      (m := 2 * h + j.val) (T := S) (Util.total_single _ _) (image_single_subset _ _ _)) $$ [Hcr HO Ha]
  · isplitr; · iexact I
    isplitl [Hcr]; · iexact Hcr
    isplitl [HO]; · iexact HO
    isplitr; · iexact M
    iexact Ha
  iintro %S' ⟨%hS, HO, Ha, Hpay⟩
  rw [show (fun n => (Rd (F := F) X Y).payload ((c : Thread nD τ), .reg (crS ρ)) 0 n) = fun i => facts (F := F) (dst ρ c) ρ (i + 1) from
    funext fun n => payload_credit X Y c ρ 0 n]
  icases Hpay with #Hpay
  obtain ⟨h1, h2, h3⟩ := hS
  have e1 : (Rd (F := F) X Y).duties ((c : Thread nD τ), .reg (crS ρ)) 0 = Finset.range 28 := duties_cell X Y c (.credit ρ) 0
  have e2 : (Rd (F := F) X Y).expect ((c : Thread nD τ), .reg (crS ρ)) 0 = 28 := expect_credit X Y c ρ
  rw [e1] at h2 h3
  rw [e2] at h3
  have h4 : 2 * h + j.val + 1 ≤ S'.card := by
    have := Finset.card_sdiff_add_card_eq_card h2
    rw [Finset.card_range] at this
    omega
  have e3 : iprop((bigSep S fun i => facts (F := F) (dst ρ c) ρ (i + 1))
      ∗ bigSep (S' \ S) (fun i => facts (F := F) (dst ρ c) ρ (i + 1)))
      ⊢ bigSep S' fun i => facts (F := F) (dst ρ c) ρ (i + 1) := Entails.of_eq (bigSep_sdiff_split h1).symm
  ihave #HS' := e3 $$ []
  · isplitr; · iexact HS
    iexact Hpay
  have e4 := heard (F := F) (dst ρ c) ρ S' (2 * h + j.val) h4
  rw [fact_eq] at e4
  ihave #HF := e4 $$ HS'
  icases HF with ⟨#HF1, #HF2⟩
  imod (slot_take ES (Set.mem_univ (J ((dst ρ c, ρ, j), h))) 1) $$ [Hw] with Hs
  · isplitr; · iexact IS
    isplitr; · iexact HF1
    iexact Hw
  iapply HK
  isplitl [Ha]
  · iexists S'
    isplitr; · ipureintro; exact ⟨h2, h4⟩
    isplitl [Ha]; · iexact Ha
    iexact HS'
  isplitl [Hs]; · iexact Hs
  isplitr; · iexact HF2
  iexists _; iexact HO

/-! ## Steps -/

/-- What a half of a ring holds after transfer `k`. -/
def lane (c : Dev nD) (ρ : Bool) (j : Fin 2) (k : ℕ) : sProp 𝕄 :=
  iprop(flying c ρ j k
    ∗ atPos ER (cell c (.send ρ (sl k) j)) (k / 2) ∅ 0 ∗ atPos ER (cell c (.recv ρ (sl (k + 1)) j)) (k / 2) ∅ 0
    ∗ (atPos ER (cell c (.send ρ (sl (k + 1)) j)) ((k + 1) / 2) ∅ 0 ∗ reached ER (cell c (.send ρ (sl (k + 1)) j)) ((k + 1) / 2))
    ∗ (atPos ER (cell c (.recv ρ (sl k) j)) ((k + 1) / 2) ∅ 0 ∗ reached ER (cell c (.recv ρ (sl k) j)) ((k + 1) / 2))
    ∗ bigSep (Finset.Ico (k + 1) 15) (sendTok c ρ j) ∗ bigSep (Finset.Ico k 14) (credTok c ρ j))

/-- What a half of a ring holds at the start. -/
def lane₀ (c : Dev nD) (ρ : Bool) (j : Fin 2) : sProp 𝕄 :=
  iprop(slotAny c ρ 0 j ∗ (slotAny (dst ρ c) ρ 1 j ∗ reached ER (cell (dst ρ c) (.recv ρ 1 j)) 0)
    ∗ (atPos ER (cell c (.send ρ 0 j)) 0 ∅ 0 ∗ reached ER (cell c (.send ρ 0 j)) 0)
    ∗ (atPos ER (cell c (.send ρ 1 j)) 0 ∅ 0 ∗ reached ER (cell c (.send ρ 1 j)) 0)
    ∗ (atPos ER (cell c (.recv ρ 0 j)) 0 ∅ 0 ∗ reached ER (cell c (.recv ρ 0 j)) 0)
    ∗ atPos ER (cell c (.recv ρ 1 j)) 0 ∅ 0
    ∗ bigSep (Finset.Ico 0 15) (sendTok c ρ j) ∗ bigSep (Finset.Ico 0 14) (credTok c ρ j))

/-- What a half of a ring holds at the end. -/
def laneEnd (c : Dev nD) (ρ : Bool) (j : Fin 2) : sProp 𝕄 :=
  iprop((slotAny c ρ 0 j ∗ slotAny c ρ 1 j)
    ∗ (semVal (cell c (.send ρ 0 j)) 0 ∗ semVal (cell c (.send ρ 1 j)) 0)
    ∗ (semVal (cell c (.recv ρ 0 j)) 0 ∗ semVal (cell c (.recv ρ 1 j)) 0))

/-- The operands, held through every step. -/
def ops (c : Dev nD) : sProp 𝕄 := iprop(xPts X c ∗ wPts Y c)

/-- What device `c` owes from step `t` on, whatever it waited for. -/
def owing (c : Dev nD) (t : ℕ) : sProp 𝕄 := iprop(∃ W, owes (c : Thread nD τ) (owedFrom c t) W)

set_option maxHeartbeats 1000000 in
/-- The first step. -/
theorem init_spec (c : Dev nD) {ρ : Bool} {j : Fin 2} {next : Pr F} {Q : PUnit → sProp 𝕄} :
    iprop(Ctx X Y K J ∗ ops X Y c ∗ lane₀ c ρ j ∗ owing c (tm ρ j 0))
      ⊢ iprop((ops X Y c ∗ lane c ρ j 0 ∗ owing c (tm ρ j 0 + 1) -∗ WP c next Q) -∗ WP c (initP c j ρ next) Q) := by
  unfold ops lane₀ owing initP
  rw [owedFrom_peel c (ρ := ρ) (j := j) (Nat.zero_le 14), bigSep_Ico_succ_bot (show 0 < 15 by decide)]
  rw [show slotAny (F := F) c ρ 0 j = slotAny c ρ (sl 0) j from rfl]
  iintro ⟨#HC, ⟨Hx, Hw⟩, ⟨Hs, ⟨Hd, #HdR⟩, ⟨HS0, #HS0r⟩, HS1, HR0, HR1, ⟨Ht, Hts⟩, Hcs⟩, ⟨%W, HO⟩⟩ HK
  iapply (load_x X c) $$ Hx
  iintro Hx
  iapply (load_w Y c) $$ Hw
  iintro Hw
  iapply (load_slot_any c (ρ := ρ) (j := j) (s := sl 0)) $$ Hs
  iintro %_ Hs
  iapply (store_slot c (ρ := ρ) (j := j) (s := sl 0)) $$ Hs
  iintro Hs
  iapply (send_spec X Y K J c (ρ := ρ) (j := j) (k := 0) (Nat.zero_le 14) (O := owedFrom c (tm ρ j 0 + 1)) (W := W)) $$ [Hs Hd HO Ht]
  · isplitr; · iexact HC
    isplitl [Hs]; · iexact Hs
    isplitl [Hd]; · iexact Hd
    isplitl [HO]
    · rw [show dueC c ρ j 0 = 0 from if_pos rfl, add_zero]; iexact HO
    isplitl [Ht]; · iexact Ht
    isplitr; · iexact HS0r
    iexact HdR
  iintro ⟨Hf, HO⟩
  iapply HK
  isplitl [Hx Hw]
  · isplitl [Hx] <;> iassumption
  isplitr [HO]
  · unfold lane
    isplitl [Hf]; · iexact Hf
    isplitl [HS0]; · iexact HS0
    isplitl [HR1]; · iexact HR1
    isplitl [HS1]; · iexact HS1
    isplitl [HR0]; · iexact HR0
    isplitl [Hts]; · iexact Hts
    iexact Hcs
  iexists W
  iexact HO

set_option maxHeartbeats 2000000 in
/-- Hop `h`: from after transfer `h` to after transfer `h + 1`. -/
theorem hop_spec (c : Dev nD) {ρ : Bool} {j : Fin 2} {h : ℕ} (hh : h < 14) {next : Pr F} {Q : PUnit → sProp 𝕄} :
    iprop(Ctx X Y K J ∗ reached ER (cell (src ρ c) (.credit ρ)) 0 ∗ ops X Y c ∗ ringSt c ρ (2 * h + j.val) ∗ lane c ρ j h
        ∗ owing c (tm ρ j (h + 1)))
      ⊢ iprop((ops X Y c ∗ ringSt c ρ (2 * h + j.val + 1) ∗ lane c ρ j (h + 1) ∗ owing c (tm ρ j (h + 1) + 1) -∗ WP c next Q)
        -∗ WP c (hopP c h j ρ next) Q) := by
  have ht : tm ρ j (h + 1) = tm ρ j h + 4 := by unfold tm; omega
  have hlt := tm_lt (ρ := ρ) (j := j) (show h + 1 ≤ 14 by omega)
  have hR : Above (2 * tm ρ j (h + 1) + 10) (dueR c ρ j (h + 1)) := Above.tally _ _ (by omega) (by omega)
  unfold ops ringSt lane owing hopP
  rw [bigSep_Ico_succ_bot (show h + 1 < 15 by omega), bigSep_Ico_succ_bot hh]
  iintro ⟨#HC, #HcrR, ⟨Hx, Hw⟩, ⟨%S, %hS, Ha, HS, #HF⟩, ⟨Hf, HS0, HR1, ⟨HS1, #HS1r⟩, ⟨HR0, #HR0r⟩, ⟨Ht, Hts⟩, ⟨Hc, Hcs⟩⟩, ⟨%W, HO⟩⟩ HK
  iapply (load_x X c) $$ Hx
  iintro Hx
  iapply (load_w Y c) $$ Hw
  iintro Hw
  iapply (waits_spec X Y K J c (ρ := ρ) (j := j) (k := h) (by omega) (O := owedFrom c (tm ρ j (h + 1))) (W := W) (Above.owedFrom c (by omega))) $$ [Hf HO HS0 HR1]
  · isplitr; · iexact HC
    isplitl [Hf]; · iexact Hf
    isplitl [HO]; · iexact HO
    isplitl [HS0]; · iexact HS0
    iexact HR1
  iintro ⟨⟨%W', HO⟩, ⟨HS0, #HS0r⟩, ⟨HR1, #HR1r⟩, Hs, Hd⟩
  unfold credTok
  icases Hc with ⟨Hct, Hcc, Hcr, Hcw⟩
  rw [owedFrom_peel c (ρ := ρ) (j := j) (show h + 1 ≤ 14 by omega)]
  iapply (give_spec X Y K J c (ρ := ρ) (j := j) hh (O := owedFrom c (tm ρ j (h + 1) + 1) + dueR c ρ j (h + 1)) (W := W')) $$ [Hs Hcr Hct HO]
  · isplitr; · iexact HC
    isplitl [Hs]; · iexact Hs
    isplitl [Hcr]; · iexact Hcr
    isplitr; · iexact HR0r
    isplitr; · iexact HF
    isplitl [Hct]; · iexact Hct
    isplitr; · iexact HcrR
    iexact HO
  iintro ⟨#HF', HO⟩
  iapply (load_slot c (ρ := ρ) (s := sl (h + 1)) (j := j)) $$ Hd
  iintro %x %hx Hd
  ihave Hd := (slotHas_any c ρ (sl (h + 1)) j _) $$ Hd
  iapply (load_slot_any c (ρ := ρ) (s := sl (h + 1)) (j := j)) $$ Hd
  iintro %_ Hd
  iapply (store_slot c (ρ := ρ) (s := sl (h + 1)) (j := j)) $$ Hd
  iintro Hd
  iapply (take_spec X Y K J c (ρ := ρ) (j := j) hh (S := S) (O := owedFrom c (tm ρ j (h + 1) + 1) + dueR c ρ j (h + 1)) (W := W') ((Above.owedFrom c (by omega)).add hR)) $$ [Hcc HO Ha HS Hcw]
  · isplitr; · iexact HC
    isplitl [Hcc]; · iexact Hcc
    isplitl [HO]; · iexact HO
    isplitl [Ha]; · iexact Ha
    isplitl [HS]; · iexact HS
    iexact Hcw
  iintro ⟨HRing, Hn, #HnR, ⟨%W'', HO⟩⟩
  icases HRing with ⟨%S', %hS', Ha, HS⟩
  have hv : acc (F := F) x (xM.view.readAt (Elt F) (rowRect ρ c (h + 1)).toLoadRect (X c)) (wM.view.readAt (Elt F) (colRect ρ j).toLoadRect (Y c))
      = sumAt X Y ρ j (h + 1) c := by
    unfold acc; rw [hx]; rfl
  rw [hv]
  iapply (send_spec X Y K J c (ρ := ρ) (j := j) (k := h + 1) (by omega) (O := owedFrom c (tm ρ j (h + 1) + 1)) (W := W'')) $$ [Hd Hn HO Ht]
  · isplitr; · iexact HC
    isplitl [Hd]; · iexact Hd
    rw [sl_add_two]
    isplitl [Hn]; · iexact Hn
    isplitl [HO]; · iexact HO
    isplitl [Ht]; · iexact Ht
    isplitr; · iexact HS1r
    iexact HnR
  iintro ⟨Hf, HO⟩
  iapply HK
  isplitl [Hx Hw]
  · isplitl [Hx] <;> iassumption
  isplitl [Ha HS]
  · iexists S'
    isplitr; · ipureintro; exact hS'
    isplitl [Ha]; · iexact Ha
    isplitl [HS]; · iexact HS
    iexact HF'
  isplitr [HO]
  · rw [sl_add_two, show (h + 1 + 1) / 2 = h / 2 + 1 by omega]
    isplitl [Hf]; · iexact Hf
    isplitl [HS1]; · iexact HS1
    isplitl [HR0]; · iexact HR0
    isplitl [HS0]; · isplitl [HS0]; · iexact HS0
                     iexact HS0r
    isplitl [HR1]; · isplitl [HR1]; · iexact HR1
                     iexact HR1r
    isplitl [Hts]; · iexact Hts
    iexact Hcs
  iexists W''
  iexact HO

end Cert.KernelIdeal.Own
-- ==== Proof.Body.lean ====
/- The last hop, and the kernel's body as a whole. -/
module

public import proofs.«01_k».proof.Proof.Hops

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))
variable (SC : Dev nD → F .f32)

/-! ## The result -/

/-- The rectangle of the result that ring `ρ`'s half `j` stores. -/
def outAt (c : Dev nD) (ρ : Bool) (j : Fin 2) : FVec F S256x2048 .f32 := scaled (SC c) (sumAt X Y ρ j 15 c)

/-- `f` is the result on the column blocks `T`. -/
def Agree (c : Dev nD) (T : Finset (Bool × Fin 2)) (f : (cc0_stg4_0 : Ref sig .tc).ty.Contents (Elt F)) : Prop :=
  ∀ p ∈ T, ∀ x : S256x2048.Idx, f ((colRect p.1 p.2).emb x) = outAt X Y SC c p.1 p.2 x

/-- Two different column blocks do not meet. -/
theorem col_apart {p q : Bool × Fin 2} (h : p ≠ q) (x : S256x2048.Idx) : (colRect p.1 p.2).emb x ∉ (colRect q.1 q.2).set := by
  have hx : (colRect p.1 p.2).emb x ∈ (colRect p.1 p.2).set := by
    rw [← Rect.map_emb_univ]; exact Finset.mem_map_of_mem _ (Finset.mem_univ x)
  intro hq
  have h1 := (Rect.mem_set_unit.mp hx) 1
  have h2 := (Rect.mem_set_unit.mp hq) 1
  generalize ((colRect p.1 p.2).emb x 1 : ℕ) = v at h1 h2
  obtain ⟨ρ, j⟩ := p
  obtain ⟨ρ', j'⟩ := q
  have h1' : col ρ j ≤ v ∧ v < col ρ j + 2048 := h1
  have h2' : col ρ' j' ≤ v ∧ v < col ρ' j' + 2048 := h2
  have hj : ρ ≠ ρ' ∨ j.val ≠ j'.val := by
    by_contra hc
    push Not at hc
    exact h (Prod.ext hc.1 (Fin.ext hc.2))
  have := j.isLt
  have := j'.isLt
  cases ρ <;> cases ρ' <;> simp only [col, ne_eq, not_true, false_or, reduceCtorEq, not_false_eq_true, true_or] at h1' h2' hj <;> omega

/-- The column blocks are all of the result. -/
theorem col_cover (i : S256x8192.Idx) : ∃ (p : Bool × Fin 2) (x : S256x2048.Idx), (colRect p.1 p.2).emb x = i := by
  have hi1 : (i 1 : ℕ) < 8192 := (i 1).isLt
  have hi0 : (i 0 : ℕ) < 256 := (i 0).isLt
  suffices h : ∃ p : Bool × Fin 2, i ∈ (colRect p.1 p.2).set by
    obtain ⟨p, hp⟩ := h
    rw [← Rect.map_emb_univ, Finset.mem_map] at hp
    obtain ⟨x, -, hx⟩ := hp
    exact ⟨p, x, hx⟩
  have key : ∀ p : Bool × Fin 2, col p.1 p.2 ≤ (i 1 : ℕ) → (i 1 : ℕ) < col p.1 p.2 + 2048 → i ∈ (colRect p.1 p.2).set := fun p h1 h2 =>
    Rect.mem_set_unit.mpr fun a => by
      match a with
      | ⟨0, _⟩ => exact ⟨Nat.zero_le _, by show (i 0 : ℕ) < 0 + 256; omega⟩
      | ⟨1, _⟩ => exact ⟨h1, h2⟩
  rcases Nat.lt_or_ge (i 1 : ℕ) 2048 with h1 | h1
  · exact ⟨(false, 0), key _ (by show 2048 * 0 ≤ _; omega) (by show _ < 2048 * 0 + 2048; omega)⟩
  rcases Nat.lt_or_ge (i 1 : ℕ) 4096 with h2 | h2
  · exact ⟨(false, 1), key _ (by show 2048 * 1 ≤ _; omega) (by show _ < 2048 * 1 + 2048; omega)⟩
  rcases Nat.lt_or_ge (i 1 : ℕ) 6144 with h3 | h3
  · exact ⟨(true, 0), key _ (by show 4096 + 2048 * 0 ≤ _; omega) (by show _ < 4096 + 2048 * 0 + 2048; omega)⟩
  · exact ⟨(true, 1), key _ (by show 4096 + 2048 * 1 ≤ _; omega) (by show _ < 4096 + 2048 * 1 + 2048; omega)⟩

omit [FloatOps F] in
theorem store_at (b : Ref sig .tc) (r : Rect b.ty.shape) (f : b.ty.Contents (Elt F)) (w : r.shape.Idx → Elt F b.ty.elt) (x : r.shape.Idx) :
    ((View.whole b).slice r).write (Elt F) f w Finset.univ (r.emb x) = w x :=
  View.read_slice_write_emb (v := View.whole b) r f w (Finset.mem_univ x)

omit [FloatOps F] in
theorem store_off (b : Ref sig .tc) (r : Rect b.ty.shape) (f : b.ty.Contents (Elt F)) (w : r.shape.Idx → Elt F b.ty.elt) {y : b.ty.shape.Idx}
    (h : y ∉ r.set) : ((View.whole b).slice r).write (Elt F) f w Finset.univ y = f y :=
  View.read_slice_write_of_not_mem (v := View.whole b) r f w Finset.univ (by rw [Rect.map_emb_univ]; exact h)

theorem Agree.store {c : Dev nD} {T : Finset (Bool × Fin 2)} {f : (cc0_stg4_0 : Ref sig .tc).ty.Contents (Elt F)} (h : Agree X Y SC c T f)
    (ρ : Bool) (j : Fin 2) :
    Agree X Y SC c (insert (ρ, j) T) ((oM.access (colRect ρ j)).write (Elt F) f (outAt X Y SC c ρ j) Finset.univ) := by
  rintro ⟨ρ', j'⟩ hp x
  show ((View.whole cc0_stg4_0).slice (colRect ρ j)).write (Elt F) f (outAt X Y SC c ρ j) Finset.univ ((colRect ρ' j').emb x)
    = outAt X Y SC c ρ' j' x
  by_cases e : (ρ', j') = (ρ, j)
  · obtain ⟨h1, h2⟩ := Prod.mk.inj e
    subst h1 h2
    exact store_at cc0_stg4_0 (colRect ρ' j') f (outAt X Y SC c ρ' j') x
  · exact (store_off cc0_stg4_0 (colRect ρ j) f (outAt X Y SC c ρ j) (col_apart (p := (ρ', j')) (q := (ρ, j)) e x)).trans
      (h (ρ', j') ((Finset.mem_insert.mp hp).resolve_left e) x)

/-- The result determines the buffer. -/
theorem Agree.unique {c : Dev nD} {f g : (cc0_stg4_0 : Ref sig .tc).ty.Contents (Elt F)} (h : Agree X Y SC c Finset.univ f)
    (h' : Agree X Y SC c Finset.univ g) : f = g := funext fun i => by
  obtain ⟨p, x, rfl⟩ := col_cover i
  exact (h p (Finset.mem_univ _) x).trans (h' p (Finset.mem_univ _) x).symm

theorem Agree.exists (c : Dev nD) : ∃ f, Agree X Y SC c Finset.univ f := by
  rw [show (Finset.univ : Finset (Bool × Fin 2)) = insert (true, 1) (insert (false, 1) (insert (true, 0) (insert (false, 0) ∅))) by decide]
  have h : Agree X Y SC c ∅ (fun _ => (Scalar.ofBits .f32 0x00000000#32 : F .f32)) := fun p hp => absurd hp (Finset.notMem_empty p)
  exact ⟨_, (((h.store X Y SC false 0).store X Y SC true 0).store X Y SC false 1).store X Y SC true 1⟩

/-- The result of device `c`. -/
def OUT (c : Dev nD) : (cc0_stg4_0 : Ref sig .tc).ty.Contents (Elt F) := (Agree.exists X Y SC c).choose

theorem OUT_at (c : Dev nD) (ρ : Bool) (j : Fin 2) (x : S256x2048.Idx) :
    OUT X Y SC c ((colRect ρ j).emb x) = outAt X Y SC c ρ j x :=
  (Agree.exists X Y SC c).choose_spec (ρ, j) (Finset.mem_univ _) x

/-- The output buffer, right on the column blocks `T`. -/
def outSt (c : Dev nD) (T : Finset (Bool × Fin 2)) : sProp 𝕄 :=
  iprop(∃ f, ⌜Agree X Y SC c T f⌝ ∗ oM.view.loc (c : Thread nD τ) ↦[oM.view.set]{fullShare} f)

variable (K : Dev nD × Cl → ℕ) (J : Key → ℕ)

set_option maxHeartbeats 2000000 in
/-- The last hop: the result stored, the half's semaphores back at zero. -/
theorem last_spec (c : Dev nD) {ρ : Bool} {j : Fin 2} {T : Finset (Bool × Fin 2)} {next : Pr F} {Q : PUnit → sProp 𝕄} :
    iprop(Ctx X Y K J ∗ ops X Y c ∗ lane c ρ j 14 ∗ owing c 60 ∗ outSt X Y SC c T)
      ⊢ iprop((ops X Y c ∗ laneEnd c ρ j ∗ owing c 60 ∗ outSt X Y SC c (insert (ρ, j) T) -∗ WP c next Q)
        -∗ WP c (lastP c (SC c) j ρ next) Q) := by
  unfold ops lane owing outSt lastP
  iintro ⟨#HC, ⟨Hx, Hw⟩, ⟨Hf, HS0, HR1, ⟨HS1, -⟩, ⟨HR0, -⟩, -, -⟩, ⟨%W, HO⟩, ⟨%f, %hf, Ho⟩⟩ HK
  iapply (load_x X c) $$ Hx
  iintro Hx
  iapply (load_w Y c) $$ Hw
  iintro Hw
  iapply (waits_spec X Y K J c (ρ := ρ) (j := j) (k := 14) (Nat.le_refl 14) (O := owedFrom c 60) (W := W)
    (by rw [owedFrom_end]; exact Above.zero)) $$ [Hf HO HS0 HR1]
  · isplitr; · iexact HC
    isplitl [Hf]; · iexact Hf
    isplitl [HO]; · iexact HO
    isplitl [HS0]; · iexact HS0
    iexact HR1
  iintro ⟨HO, ⟨HS0, -⟩, ⟨HR1, -⟩, Hs, Hd⟩
  iapply (load_slot c (ρ := ρ) (s := sl 15) (j := j)) $$ Hd
  iintro %x %hx Hd
  iapply (wp_load_rect 𝒱₀ (c : Thread nD τ) none Set.univ (m := oM) (r := colRect ρ j) (S := oM.view.set) (f := f)
    (by rw [View.set_whole]; exact Finset.subset_univ _)) $$ Ho
  iintro Ho
  have hv : scaled (SC c) (acc (F := F) x (xM.view.readAt (Elt F) (rowRect ρ c 15).toLoadRect (X c))
      (wM.view.readAt (Elt F) (colRect ρ j).toLoadRect (Y c))) = outAt X Y SC c ρ j := by
    unfold acc; rw [hx]; rfl
  rw [hv]
  iapply (wp_store 𝒱₀ (c : Thread nD τ) none Set.univ (m := oM) (r := colRect ρ j) (S := oM.view.set) (f := f)
    (by rw [View.set_whole]; exact Finset.subset_univ _)) $$ Ho
  iintro Ho
  ihave Hd := (slotHas_any c ρ (sl 15) j _) $$ Hd
  ihave #I1 := (Ctx_cell X Y K J c (.send ρ 0 j)) $$ HC
  ihave #I2 := (Ctx_cell X Y K J c (.send ρ 1 j)) $$ HC
  ihave #I3 := (Ctx_cell X Y K J c (.recv ρ 0 j)) $$ HC
  ihave #I4 := (Ctx_cell X Y K J c (.recv ρ 1 j)) $$ HC
  imod (Rounds.cell_close ER (Rd (F := F) X Y) (Set.mem_univ (K (c, .send ρ 0 j))) (fun h => h) (R := 8)
    (duties_send_later X Y c ρ 16 (by decide) j)) $$ [HS0] with HS0
  · isplitr; · iexact I1
    iexact HS0
  imod (Rounds.cell_close ER (Rd (F := F) X Y) (Set.mem_univ (K (c, .send ρ 1 j))) (fun h => h) (R := 7)
    (duties_send_later X Y c ρ 15 (by decide) j)) $$ [HS1] with HS1
  · isplitr; · iexact I2
    iexact HS1
  imod (Rounds.cell_close ER (Rd (F := F) X Y) (Set.mem_univ (K (c, .recv ρ 0 j))) (fun h => h) (R := 7)
    (duties_recv_later X Y c ρ 15 (by decide) j)) $$ [HR0] with HR0
  · isplitr; · iexact I3
    iexact HR0
  imod (Rounds.cell_close ER (Rd (F := F) X Y) (Set.mem_univ (K (c, .recv ρ 1 j))) (fun h => h) (R := 8)
    (duties_recv_later X Y c ρ 16 (by decide) j)) $$ [HR1] with HR1
  · isplitr; · iexact I4
    iexact HR1
  iapply HK
  isplitl [Hx Hw]
  · isplitl [Hx] <;> iassumption
  isplitl [Hs Hd HS0 HS1 HR0 HR1]
  · unfold laneEnd
    isplitl [Hs Hd]
    · isplitl [Hs]; · iexact Hs
      iexact Hd
    isplitl [HS0 HS1]
    · isplitl [HS0]; · iexact HS0
      iexact HS1
    · isplitl [HR0]; · iexact HR0
      iexact HR1
  isplitl [HO]; · iexact HO
  iexists _
  isplitr; · ipureintro; exact hf.store X Y SC ρ j
  iexact Ho

/-! ## All halves together -/

/-- The credits of both rings have not been taken further than round 0. -/
def heardR (c : Dev nD) : sProp 𝕄 :=
  iprop(reached ER (cell (src false c) (.credit false)) 0 ∗ reached ER (cell (src true c) (.credit true)) 0)

instance heardR_persistent (c : Dev nD) : BI.Persistent (heardR (F := F) c) := by unfold heardR; infer_instance

/-- Something for both halves of both rings. -/
def each (P : Bool → Fin 2 → sProp 𝕄) : sProp 𝕄 := iprop((P false 0 ∗ P true 0) ∗ (P false 1 ∗ P true 1))

/-- Before hop `h`. -/
def hopSt (c : Dev nD) (h : ℕ) : sProp 𝕄 :=
  iprop(ops X Y c ∗ (ringSt c false (2 * h) ∗ ringSt c true (2 * h)) ∗ each (fun ρ j => lane c ρ j h) ∗ owing c (4 * (h + 1)))

set_option maxHeartbeats 2000000 in
theorem four_init (c : Dev nD) {next : Pr F} {Q : PUnit → sProp 𝕄} :
    iprop(Ctx X Y K J ∗ ops X Y c ∗ each (lane₀ c) ∗ owing c 0)
      ⊢ iprop((ops X Y c ∗ each (fun ρ j => lane c ρ j 0) ∗ owing c 4 -∗ WP c next Q) -∗ WP c (four (initP c) next) Q) := by
  unfold each four
  iintro ⟨#HC, Hops, ⟨⟨H1, H2⟩, ⟨H3, H4⟩⟩, HO⟩ HK
  iapply (init_spec X Y K J c (ρ := false) (j := 0)) $$ [Hops H1 HO]
  · isplitr; · iexact HC
    isplitl [Hops]; · iexact Hops
    isplitl [H1]; · iexact H1
    iexact HO
  iintro ⟨Hops, H1, HO⟩
  iapply (init_spec X Y K J c (ρ := true) (j := 0)) $$ [Hops H2 HO]
  · isplitr; · iexact HC
    isplitl [Hops]; · iexact Hops
    isplitl [H2]; · iexact H2
    iexact HO
  iintro ⟨Hops, H2, HO⟩
  iapply (init_spec X Y K J c (ρ := false) (j := 1)) $$ [Hops H3 HO]
  · isplitr; · iexact HC
    isplitl [Hops]; · iexact Hops
    isplitl [H3]; · iexact H3
    iexact HO
  iintro ⟨Hops, H3, HO⟩
  iapply (init_spec X Y K J c (ρ := true) (j := 1)) $$ [Hops H4 HO]
  · isplitr; · iexact HC
    isplitl [Hops]; · iexact Hops
    isplitl [H4]; · iexact H4
    iexact HO
  iintro ⟨Hops, H4, HO⟩
  iapply HK
  isplitl [Hops]; · iexact Hops
  isplitr [HO]
  · isplitl [H1 H2]
    · isplitl [H1] <;> iassumption
    · isplitl [H3] <;> iassumption
  iexact HO

set_option maxHeartbeats 4000000 in
theorem four_hop (c : Dev nD) {h : ℕ} (hh : h < 14) {next : Pr F} {Q : PUnit → sProp 𝕄} :
    iprop(Ctx X Y K J ∗ heardR c ∗ hopSt X Y c h)
      ⊢ iprop((hopSt X Y c (h + 1) -∗ WP c next Q) -∗ WP c (four (hopP c h) next) Q) := by
  unfold hopSt each four heardR
  iintro ⟨#HC, ⟨#Hr1, #Hr2⟩, Hops, ⟨HA, HB⟩, ⟨⟨H1, H2⟩, ⟨H3, H4⟩⟩, HO⟩ HK
  iapply (hop_spec X Y K J c (ρ := false) (j := 0) hh) $$ [Hops HA H1 HO]
  · isplitr; · iexact HC
    isplitr; · iexact Hr1
    isplitl [Hops]; · iexact Hops
    isplitl [HA]; · iexact HA
    isplitl [H1]; · iexact H1
    iexact HO
  iintro ⟨Hops, HA, H1, HO⟩
  iapply (hop_spec X Y K J c (ρ := true) (j := 0) hh) $$ [Hops HB H2 HO]
  · isplitr; · iexact HC
    isplitr; · iexact Hr2
    isplitl [Hops]; · iexact Hops
    isplitl [HB]; · iexact HB
    isplitl [H2]; · iexact H2
    iexact HO
  iintro ⟨Hops, HB, H2, HO⟩
  iapply (hop_spec X Y K J c (ρ := false) (j := 1) hh) $$ [Hops HA H3 HO]
  · isplitr; · iexact HC
    isplitr; · iexact Hr1
    isplitl [Hops]; · iexact Hops
    isplitl [HA]; · iexact HA
    isplitl [H3]; · iexact H3
    iexact HO
  iintro ⟨Hops, HA, H3, HO⟩
  iapply (hop_spec X Y K J c (ρ := true) (j := 1) hh) $$ [Hops HB H4 HO]
  · isplitr; · iexact HC
    isplitr; · iexact Hr2
    isplitl [Hops]; · iexact Hops
    isplitl [HB]; · iexact HB
    isplitl [H4]; · iexact H4
    iexact HO
  iintro ⟨Hops, HB, H4, HO⟩
  iapply HK
  isplitl [Hops]; · iexact Hops
  isplitl [HA HB]
  · isplitl [HA]
    · iexact HA
    · iexact HB
  isplitr [HO]
  · isplitl [H1 H2]
    · isplitl [H1] <;> iassumption
    · isplitl [H3] <;> iassumption
  iexact HO

/-- The hops from where `n` are left. -/
theorem hops_spec (c : Dev nD) {next : Pr F} {Q : PUnit → sProp 𝕄} : ∀ n ≤ 14,
    iprop(Ctx X Y K J ∗ heardR c ∗ hopSt X Y c (14 - n))
      ⊢ iprop((hopSt X Y c 14 -∗ WP c next Q) -∗ WP c (hopsP c next n) Q)
  | 0, _ => by
    show _ ⊢ iprop((hopSt X Y c 14 -∗ WP c next Q) -∗ WP c next Q)
    iintro ⟨-, -, H⟩ HK
    iapply HK
    iexact H
  | n + 1, hn => by
    have ih := hops_spec c (next := next) (Q := Q) n (by omega)
    have e : 14 - n = 13 - n + 1 := by omega
    rw [e] at ih
    show iprop(Ctx X Y K J ∗ heardR c ∗ hopSt X Y c (14 - (n + 1)))
      ⊢ iprop((hopSt X Y c 14 -∗ WP c next Q) -∗ WP c (four (hopP c (13 - n)) (hopsP c next n)) Q)
    rw [show 14 - (n + 1) = 13 - n by omega]
    iintro ⟨#HC, #HR, H⟩ HK
    iapply (four_hop X Y K J c (h := 13 - n) (by omega)) $$ [H]
    · isplitr; · iexact HC
      isplitr; · iexact HR
      iexact H
    iintro H
    iapply ih $$ [H]
    · isplitr; · iexact HC
      isplitr; · iexact HR
      iexact H
    iexact HK

set_option maxHeartbeats 2000000 in
theorem four_last (c : Dev nD) {next : Pr F} {Q : PUnit → sProp 𝕄} :
    iprop(Ctx X Y K J ∗ ops X Y c ∗ each (fun ρ j => lane c ρ j 14) ∗ owing c 60 ∗ outSt X Y SC c ∅)
      ⊢ iprop((ops X Y c ∗ each (laneEnd c) ∗ owing c 60 ∗ outSt X Y SC c Finset.univ -∗ WP c next Q)
        -∗ WP c (four (lastP c (SC c)) next) Q) := by
  rw [show (Finset.univ : Finset (Bool × Fin 2)) = insert (true, 1) (insert (false, 1) (insert (true, 0) (insert (false, 0) ∅))) by decide]
  unfold each four
  iintro ⟨#HC, Hops, ⟨⟨H1, H2⟩, ⟨H3, H4⟩⟩, HO, Ho⟩ HK
  iapply (last_spec X Y SC K J c (ρ := false) (j := 0) (T := ∅)) $$ [Hops H1 HO Ho]
  · isplitr; · iexact HC
    isplitl [Hops]; · iexact Hops
    isplitl [H1]; · iexact H1
    isplitl [HO]; · iexact HO
    iexact Ho
  iintro ⟨Hops, H1, HO, Ho⟩
  iapply (last_spec X Y SC K J c (ρ := true) (j := 0)) $$ [Hops H2 HO Ho]
  · isplitr; · iexact HC
    isplitl [Hops]; · iexact Hops
    isplitl [H2]; · iexact H2
    isplitl [HO]; · iexact HO
    iexact Ho
  iintro ⟨Hops, H2, HO, Ho⟩
  iapply (last_spec X Y SC K J c (ρ := false) (j := 1)) $$ [Hops H3 HO Ho]
  · isplitr; · iexact HC
    isplitl [Hops]; · iexact Hops
    isplitl [H3]; · iexact H3
    isplitl [HO]; · iexact HO
    iexact Ho
  iintro ⟨Hops, H3, HO, Ho⟩
  iapply (last_spec X Y SC K J c (ρ := true) (j := 1)) $$ [Hops H4 HO Ho]
  · isplitr; · iexact HC
    isplitl [Hops]; · iexact Hops
    isplitl [H4]; · iexact H4
    isplitl [HO]; · iexact HO
    iexact Ho
  iintro ⟨Hops, H4, HO, Ho⟩
  iapply HK
  isplitl [Hops]; · iexact Hops
  isplitr [HO Ho]
  · isplitl [H1 H2]
    · isplitl [H1] <;> iassumption
    · isplitl [H3] <;> iassumption
  isplitl [HO] <;> iassumption

end Cert.KernelIdeal.Own
-- ==== Proof.Whole.lean ====
/- The handshake, the end of the credits, and one device's run of the kernel from start to end. -/
module

public import proofs.«01_k».proof.Proof.Body

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))
variable (A : Dev nD → (cc0_stg2_0 : Ref sig .tc).ty.Contents (Elt F)) (B : Dev nD → (cc0_stg3_0 : Ref sig .tc).ty.Contents (Elt F))
variable (K : Dev nD × Cl → ℕ) (J : Key → ℕ)

/-- The product of the two scales. -/
def scl (c : Dev nD) : F .f32 :=
  Scalar.mulf (s0M.view.readAt (Elt F) (Rect.unit (s := S1) ![0] S1.size inb_S1_S1_0).toLoadRect (A c)
      (Shape.Idx.first (numel1_S1.symm ▸ Nat.one_pos)))
    (s1M.view.readAt (Elt F) (Rect.unit (s := S1) ![0] S1.size inb_S1_S1_0).toLoadRect (B c)
      (Shape.Idx.first (numel1_S1.symm ▸ Nat.one_pos)))

/-- The two scales, held. -/
def scales (c : Dev nD) : sProp 𝕄 :=
  iprop((s0M.view.loc (c : Thread nD τ) ↦[s0M.view.set]{fullShare} A c) ∗ (s1M.view.loc (c : Thread nD τ) ↦[s1M.view.set]{fullShare} B c))

/-- What a half of a ring holds before the handshake. -/
def lanePre (c : Dev nD) (ρ : Bool) (j : Fin 2) : sProp 𝕄 :=
  iprop(slotAny c ρ 0 j
    ∗ (atPos ER (cell c (.send ρ 0 j)) 0 ∅ 0 ∗ reached ER (cell c (.send ρ 0 j)) 0)
    ∗ (atPos ER (cell c (.send ρ 1 j)) 0 ∅ 0 ∗ reached ER (cell c (.send ρ 1 j)) 0)
    ∗ (atPos ER (cell c (.recv ρ 0 j)) 0 ∅ 0 ∗ reached ER (cell c (.recv ρ 0 j)) 0)
    ∗ atPos ER (cell c (.recv ρ 1 j)) 0 ∅ 0
    ∗ bigSep (Finset.Ico 0 15) (sendTok c ρ j) ∗ bigSep (Finset.Ico 0 14) (credTok c ρ j))

theorem lane_start (c : Dev nD) (ρ : Bool) (j : Fin 2) :
    iprop(lanePre c ρ j ∗ (slotAny (dst ρ c) ρ 1 j ∗ reached ER (cell (dst ρ c) (.recv ρ 1 j)) 0)) ⊢ lane₀ (F := F) c ρ j := by
  unfold lanePre lane₀
  iintro ⟨⟨H1, H2⟩, H3⟩
  isplitl [H1]; · iexact H1
  isplitl [H3]; · iexact H3
  iexact H2

/-- What the handshake takes. -/
def barPre (c : Dev nD) : sProp 𝕄 :=
  iprop(atPos ER (cell c .bar) 0 ∅ 0 ∗ cred (tallyAt (cell c .bar) 1 2)
    ∗ (dutyTok ER (cell (dst true c) .bar) 0 0 ∗ reached ER (cell (dst true c) .bar) 0)
    ∗ (dutyTok ER (cell (dst false c) .bar) 0 1 ∗ reached ER (cell (dst false c) .bar) 0))

/-- Everything device `c` is to pay. -/
def O₀ (c : Dev nD) : CellTallies nD τ sig ℕ :=
  owedFrom c 0 + tallyAt (cell (dst false c) .bar) 1 1 + tallyAt (cell (dst true c) .bar) 1 1

theorem payload_bar0 (c : Dev nD) : (Rd (F := F) X Y).payload (cell (dst true c) .bar) 0 0 = ready c false := by
  rw [payload_cell]
  show ready (dst false (dst true c)) false = _
  rw [show dst false (dst true c) = c from dst_src false c]

theorem payload_bar1 (c : Dev nD) : (Rd (F := F) X Y).payload (cell (dst false c) .bar) 0 1 = ready c true := by
  rw [payload_cell]
  show ready (dst true (dst false c)) true = _
  rw [show dst true (dst false c) = c from dst_src true c]

set_option maxHeartbeats 2000000 in
/-- The prologue: the handshake with both neighbours, then the scales. -/
theorem prologue_spec (c : Dev nD) {W : Waits sig ℕ} {next : Dev nD → F .f32 → Pr F} {Q : PUnit → sProp 𝕄} :
    iprop(Ctx X Y K J ∗ barPre c ∗ (ready c false ∗ ready c true) ∗ scales A B c ∗ owes (c : Thread nD τ) (O₀ c) W)
      ⊢ iprop((semVal (cell c .bar) 0 ∗ (ready (dst false c) false ∗ ready (dst true c) true) ∗ scales A B c ∗ owing c 0
          -∗ WP c (next c (scl A B c)) Q) -∗ WP c (prologueP next) Q) := by
  unfold barPre scales O₀ prologueP owing
  simp only [wp_deviceId]
  iintro ⟨#HC, ⟨Ha, Hc, ⟨Ht, #Hr⟩, ⟨Ht', #Hr'⟩⟩, ⟨Hf, Hf'⟩, ⟨HA, HB⟩, HO⟩ HK
  ihave #I := (Ctx_cell X Y K J (dst true c) .bar) $$ HC
  ihave #I' := (Ctx_cell X Y K J (dst false c) .bar) $$ HC
  ihave #I'' := (Ctx_cell X Y K J c .bar) $$ HC
  iapply (Rounds.wp_signal 𝒱₀ ER (Rd (F := F) X Y) (c : Thread nD τ) none (dst := ((dst true c : Dev nD) : Thread nD τ)) (sem := barS)
      (κ := K (dst true c, .bar)) (r := 0) (d := 0)
      (show 0 ∈ (Rd (F := F) X Y).duties (cell (dst true c) .bar) 0 by rw [duties_cell]; exact Finset.mem_insert_self _ _)
      (show (Rd (F := F) X Y).amount (cell (dst true c) .bar) 0 0 = 1 from amount_cell X Y _ _ _ _)
      1 (owedFrom c 0 + tallyAt (cell (dst false c) .bar) 1 1) rfl) $$ [HO Ht Hf]
  · isplitr; · iexact I
    isplitl [HO]; · iexact HO
    isplitl [Ht]; · iexact Ht
    isplitl [Hf]
    · have e : (Rd (F := F) X Y).payload (((dst true c : Dev nD) : Thread nD τ), .reg barS) 0 0 = ready c false := payload_bar0 X Y c
      rw [e]; iexact Hf
    · iexact Hr
  iintro HO
  iapply (Rounds.wp_signal 𝒱₀ ER (Rd (F := F) X Y) (c : Thread nD τ) none (dst := ((dst false c : Dev nD) : Thread nD τ)) (sem := barS)
      (κ := K (dst false c, .bar)) (r := 0) (d := 1)
      (show 1 ∈ (Rd (F := F) X Y).duties (cell (dst false c) .bar) 0 by
        rw [duties_cell]; exact Finset.mem_insert_of_mem (Finset.mem_singleton_self _))
      (show (Rd (F := F) X Y).amount (cell (dst false c) .bar) 0 1 = 1 from amount_cell X Y _ _ _ _)
      1 (owedFrom c 0) rfl) $$ [HO Ht' Hf']
  · isplitr; · iexact I'
    isplitl [HO]; · iexact HO
    isplitl [Ht']; · iexact Ht'
    isplitl [Hf']
    · have e : (Rd (F := F) X Y).payload (((dst false c : Dev nD) : Thread nD τ), .reg barS) 0 1 = ready c true := payload_bar1 X Y c
      rw [e]; iexact Hf'
    · iexact Hr'
  iintro HO
  ihave #M := (Ctx_mayWait X Y K J c (.reg barS) (ι := 1) (O := owedFrom c 0) (by omega) (Above.owedFrom c (by omega))) $$ HC
  iapply (Rounds.wp_wait_rest_token 𝒱₀ ER (Rd (F := F) X Y) (c : Thread nD τ) none (κ := K (c, .bar))
      (sm := .reg barS) (wpE_semWait_eq 𝒱₀ (c : Thread nD τ) none Set.univ) (Set.mem_univ _) 1 (O := owedFrom c 0)
      (W := W) (R := 0) (m := 0) (T := ∅)
      ((Nat.zero_add _).trans (expect_bar X Y c).symm)) $$ [Hc HO Ha]
  · isplitr; · iexact I''
    isplitl [Hc]; · iexact Hc
    isplitl [HO]; · iexact HO
    isplitr; · iexact M
    iexact Ha
  iintro ⟨HO, Ha, -, Hpay⟩
  have e : bigSep ((Rd (F := F) X Y).duties ((c : Thread nD τ), .reg barS) 0 \ ∅) (fun n => (Rd (F := F) X Y).payload ((c : Thread nD τ), .reg barS) 0 n)
      = iprop(ready (dst false c) false ∗ ready (dst true c) true) := rest_bar X Y c
  ihave Hpay := (Entails.of_eq e) $$ Hpay
  imod (Rounds.cell_close ER (Rd (F := F) X Y) (Set.mem_univ (K (c, .bar))) (fun h => h) (R := 1)
    (duties_bar_later X Y c)) $$ [Ha] with Ha
  · isplitr; · iexact I''
    iexact Ha
  iapply (wp_load_rect 𝒱₀ (c : Thread nD τ) none Set.univ (m := s0M) (r := Rect.unit (s := S1) ![0] S1.size inb_S1_S1_0) (S := s0M.view.set) (f := A c)
    (by rw [View.set_whole]; exact Finset.subset_univ _)) $$ HA
  iintro HA
  iapply (wp_load_rect 𝒱₀ (c : Thread nD τ) none Set.univ (m := s1M) (r := Rect.unit (s := S1) ![0] S1.size inb_S1_S1_0) (S := s1M.view.set) (f := B c)
    (by rw [View.set_whole]; exact Finset.subset_univ _)) $$ HB
  iintro HB
  iapply HK
  isplitl [Ha]; · iexact Ha
  isplitl [Hpay]; · iexact Hpay
  isplitl [HA HB]; · isplitl [HA] <;> iassumption
  iexists _; iexact HO

/-- After its 28 hops a ring's credits are all in, and the semaphore is back at zero. -/
theorem ring_end (c : Dev nD) (ρ : Bool) : iprop(Ctx X Y K J ∗ ringSt c ρ 28) ⊢ iprop(|={Set.univ}=> semVal (cell c (.credit ρ)) 0) := by
  unfold ringSt
  iintro ⟨#HC, ⟨%S, %hS, Ha, -, -⟩⟩
  have e : S = Finset.range 28 := Finset.eq_of_subset_of_card_le hS.1 (by rw [Finset.card_range]; exact hS.2)
  ihave #I := (Ctx_cell X Y K J c (.credit ρ)) $$ HC
  imod (Rounds.fupd_skip ER (Rd (F := F) X Y) (κ := K (c, .credit ρ)) (g := cell c (.credit ρ)) (R := 0) (m := 28) (T := S)
    (by rw [duties_cell, e]; exact Finset.Subset.refl _) (expect_credit X Y c ρ).symm (Set.mem_univ _)) $$ [Ha] with ⟨Ha, -⟩
  · isplitr; · iexact I
    iexact Ha
  iapply (Rounds.cell_close ER (Rd (F := F) X Y) (Set.mem_univ (K (c, .credit ρ))) (fun h => h) (R := 1)
    (duties_credit_later X Y c ρ))
  isplitr; · iexact I
  iexact Ha

/-! ## The whole run -/

/-- What device `c` starts from, its operands aside. -/
def begun (c : Dev nD) : sProp 𝕄 :=
  iprop(heardR c ∗ barPre c ∗ (ready c false ∗ ready c true) ∗ (atPos ER (cell c (.credit false)) 0 ∅ 0 ∗ atPos ER (cell c (.credit true)) 0 ∅ 0)
    ∗ each (lanePre c))

/-- What device `c` ends with, its operands and result aside. -/
def ended (c : Dev nD) : sProp 𝕄 :=
  iprop(semVal (cell c .bar) 0 ∗ (semVal (cell c (.credit false)) 0 ∗ semVal (cell c (.credit true)) 0) ∗ each (laneEnd c))

theorem ring_start (c : Dev nD) (ρ : Bool) : atPos ER (cell c (.credit ρ)) 0 ∅ 0 ⊢ ringSt (F := F) c ρ 0 := by
  unfold ringSt facts
  iintro H
  iexists ∅
  isplitr; · ipureintro; exact ⟨Finset.empty_subset _, Nat.zero_le _⟩
  isplitl [H]; · iexact H
  rw [bigSep_empty, Finset.range_zero, bigSep_empty]
  isplitr <;> exact .rfl

set_option maxHeartbeats 2000000 in
theorem lanes_start (c : Dev nD) :
    iprop(each (lanePre c) ∗ ready (dst false c) false ∗ ready (dst true c) true) ⊢ each (lane₀ (F := F) c) := by
  unfold each ready
  iintro ⟨⟨⟨H1, H2⟩, ⟨H3, H4⟩⟩, ⟨R1, R3⟩, ⟨R2, R4⟩⟩
  isplitl [H1 H2 R1 R2]
  · isplitl [H1 R1]
    · iapply (lane_start c false 0); isplitl [H1] <;> iassumption
    · iapply (lane_start c true 0); isplitl [H2] <;> iassumption
  · isplitl [H3 R3]
    · iapply (lane_start c false 1); isplitl [H3] <;> iassumption
    · iapply (lane_start c true 1); isplitl [H4] <;> iassumption

set_option maxHeartbeats 2000000 in
/-- One device's run. -/
theorem chain_spec (c : Dev nD) {W : Waits sig ℕ} {Q : PUnit → sProp 𝕄} :
    iprop(Ctx X Y K J ∗ begun c ∗ ops X Y c ∗ scales A B c ∗ outSt X Y (scl A B) c ∅ ∗ owes (c : Thread nD τ) (O₀ c) W)
      ⊢ iprop((ended c ∗ ops X Y c ∗ scales A B c ∗ outSt X Y (scl A B) c Finset.univ ∗ (∃ W', owes (c : Thread nD τ) 0 W') -∗ Q ⟨⟩)
        -∗ WP c chain Q) := by
  unfold begun chain
  iintro ⟨#HC, ⟨#HR, Hb, Hf, ⟨Hg, Hg'⟩, Hl⟩, Hops, Hsc, Ho, HO⟩ HK
  iapply (prologue_spec X Y A B K J c) $$ [Hb Hf Hsc HO]
  · isplitr; · iexact HC
    isplitl [Hb]; · iexact Hb
    isplitl [Hf]; · iexact Hf
    isplitl [Hsc]; · iexact Hsc
    iexact HO
  iintro ⟨Hz, Hf, Hsc, HO⟩
  ihave Hl := (lanes_start c) $$ [Hl Hf]
  · isplitl [Hl] <;> iassumption
  iapply (four_init X Y K J c) $$ [Hops Hl HO]
  · isplitr; · iexact HC
    isplitl [Hops]; · iexact Hops
    isplitl [Hl]; · iexact Hl
    iexact HO
  iintro ⟨Hops, Hl, HO⟩
  ihave Hg := (ring_start c false) $$ Hg
  ihave Hg' := (ring_start c true) $$ Hg'
  iapply (hops_spec X Y K J c 14 (Nat.le_refl 14)) $$ [Hops Hl HO Hg Hg']
  · isplitr; · iexact HC
    isplitr; · iexact HR
    unfold hopSt
    isplitl [Hops]; · iexact Hops
    isplitl [Hg Hg']
    · isplitl [Hg]; · iexact Hg
      iexact Hg'
    isplitl [Hl]; · iexact Hl
    iexact HO
  unfold hopSt
  iintro ⟨Hops, ⟨Hg, Hg'⟩, Hl, HO⟩
  iapply (four_last X Y (scl A B) K J c) $$ [Hops Hl HO Ho]
  · isplitr; · iexact HC
    isplitl [Hops]; · iexact Hops
    isplitl [Hl]; · iexact Hl
    isplitl [HO]; · iexact HO
    iexact Ho
  iintro ⟨Hops, Hl, HO, Ho⟩
  imod (ring_end X Y K J c false) $$ [Hg] with Hg
  · isplitr; · iexact HC
    iexact Hg
  imod (ring_end X Y K J c true) $$ [Hg'] with Hg'
  · isplitr; · iexact HC
    iexact Hg'
  rw [wp_ret]
  imodintro
  iapply HK
  isplitl [Hz Hg Hg' Hl]
  · unfold ended
    isplitl [Hz]; · iexact Hz
    isplitl [Hg Hg']
    · isplitl [Hg] <;> iassumption
    iexact Hl
  isplitl [Hops]; · iexact Hops
  isplitl [Hsc]; · iexact Hsc
  isplitl [Ho]; · iexact Ho
  unfold owing
  rw [owedFrom_end]
  iexact HO

end Cert.KernelIdeal.Own
-- ==== Proof.Deal.lean ====
/- What the launch deals: the tokens, the credits and the slots, device by device and half by half. -/
module

public import proofs.«01_k».proof.Proof.Whole
public import Idealize.ShloMosaic.Lib.SparseCore.Launch
public import Idealize.ShloMosaic.Lib.Ring

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))

/-- A ring and a half of it. -/
abbrev Half : Type := Bool × Fin 2

omit [FloatOps F] in
theorem each_eq (P : Bool → Fin 2 → sProp 𝕄) : each P = bigSep (Finset.univ : Finset Half) fun p => P p.1 p.2 := by
  rw [bigSep_univ_eq_bigSepL [(false, 0), (true, 0), (false, 1), (true, 1)] (by decide) (by decide)]
  show iprop((P false 0 ∗ P true 0) ∗ P false 1 ∗ P true 1) = iprop(P false 0 ∗ P true 0 ∗ P false 1 ∗ P true 1)
  exact equiv_iff.mp ⟨BI.sep_assoc, BI.sep_assoc'⟩

/-! ## The semaphores -/

/-- The semaphores of the kernel's own: all of the protocol's but the barrier's. -/
abbrev OC : Type := Bool ⊕ Tri ⊕ Tri

abbrev osem : OC → SemLoc sig := fun i => semOf (clE (.inr i))

def triE : Half × Fin 2 ≃ Tri := ⟨fun p => (p.1.1, p.2, p.1.2), fun t => ((t.1, t.2.2), t.2.1), fun _ => rfl, fun _ => rfl⟩

omit [FloatOps F] in
theorem cl_own (Φ : Cl → sProp 𝕄) :
    bigSep Finset.univ Φ = iprop(Φ .bar ∗ bigSep Finset.univ fun i : OC => Φ (clE (.inr i))) := by
  rw [bigSep_univ_equiv clE, bigSep_univ_sum]
  congr 1
  exact bigSep_univ_eq_bigSepL [()] (by decide) (by decide) _

omit [FloatOps F] in
theorem tri_split (Φ : Tri → sProp 𝕄) :
    bigSep Finset.univ Φ = bigSep (Finset.univ : Finset Half) fun p => iprop(Φ (p.1, 0, p.2) ∗ Φ (p.1, 1, p.2)) := by
  rw [bigSep_univ_equiv triE, bigSep_univ_prod]
  exact bigSep_congr fun p _ => bigSep_univ_eq_bigSepL [0, 1] (by decide) (by decide) _

omit [FloatOps F] in
theorem cl_split (Φ : Cl → sProp 𝕄) :
    bigSep Finset.univ Φ = iprop(Φ .bar ∗ (Φ (.credit false) ∗ Φ (.credit true))
      ∗ (bigSep (Finset.univ : Finset Half) fun p => iprop(Φ (.send p.1 0 p.2) ∗ Φ (.send p.1 1 p.2)))
      ∗ bigSep (Finset.univ : Finset Half) fun p => iprop(Φ (.recv p.1 0 p.2) ∗ Φ (.recv p.1 1 p.2))) := by
  rw [cl_own, bigSep_univ_sum, bigSep_univ_sum, tri_split, tri_split, bigSep_univ_eq_bigSepL [false, true] (by decide) (by decide)]
  rfl

/-! ## The tokens -/

/-- The duties of a device's cells: the barrier's two; of each half, the departures, the arrivals, the credits. -/
abbrev TokIx : Type := Bool ⊕ (Half × (Fin 15 ⊕ Fin 15 ⊕ Fin 14))

def tokOf : Dev nD × TokIx → GSem nD τ sig × ℕ × ℕ
  | (d, .inl b) => (cell d .bar, 0, b.toNat)
  | (d, .inr (p, .inl k)) => (cell d (.send p.1 (sl k) p.2), k / 2, 0)
  | (d, .inr (p, .inr (.inl k))) => (cell d (.recv p.1 (sl (k + 1)) p.2), k / 2, 0)
  | (d, .inr (p, .inr (.inr h))) => (cell d (.credit p.1), 0, 2 * h + p.2.val)

theorem sl_div {k k' : ℕ} (h : sl k = sl k') (h' : k / 2 = k' / 2) : k = k' := by
  have : k % 2 = k' % 2 := congrArg Fin.val h
  omega

theorem tokOf_injective : Function.Injective tokOf := by
  rintro ⟨d, b | ⟨⟨ρ, j⟩, k | k | k⟩⟩ ⟨d', b' | ⟨⟨ρ', j'⟩, k' | k' | k'⟩⟩ h <;> obtain ⟨hc, hr, hd⟩ := (⟨congrArg (·.1) h, congrArg (·.2.1) h, congrArg (·.2.2) h⟩ : _ ∧ _ ∧ _) <;>
    dsimp only [tokOf] at hc hr hd <;> obtain ⟨rfl, hi⟩ := cell_inj hc
  all_goals try (simp only [reduceCtorEq] at hi; done)
  · have : b = b' := by revert hd; cases b <;> cases b' <;> decide
    rw [this]
  · obtain ⟨rfl, hs, rfl⟩ := Cl.send.inj hi
    have : k = k' := Fin.ext (sl_div hs hr)
    rw [this]
  · obtain ⟨rfl, hs, rfl⟩ := Cl.recv.inj hi
    have hs' : (k.val + 1) % 2 = (k'.val + 1) % 2 := congrArg Fin.val hs
    have : k = k' := Fin.ext (by omega)
    rw [this]
  · obtain rfl := Cl.credit.inj hi
    have h1 := j.isLt
    have h2 := j'.isLt
    have : k = k' := Fin.ext (by omega)
    have hj : j = j' := Fin.ext (by omega)
    rw [this, hj]

/-- Whose cell the duty a device pays is on. -/
def payer : TokIx → Dev nD ≃ Dev nD
  | .inl false => ringE true
  | .inl true => ringE false
  | .inr (_, .inl _) => Equiv.refl _
  | .inr (p, .inr (.inl _)) => ringE p.1
  | .inr (p, .inr (.inr _)) => (ringE p.1).symm

def tok (q : Dev nD × TokIx) : sProp 𝕄 := dutyTok ER (tokOf q).1 (tokOf q).2.1 (tokOf q).2.2

/-- The tokens of the duties device `c` pays. -/
def payToks (c : Dev nD) : sProp 𝕄 := bigSep Finset.univ fun i : TokIx => tok (payer i c, i)

omit [FloatOps F] in
theorem swap {I J : Type} [Fintype I] [DecidableEq I] [Fintype J] [DecidableEq J] (Φ : I → J → sProp 𝕄) :
    (bigSep Finset.univ fun i => bigSep Finset.univ fun j => Φ i j) = bigSep Finset.univ fun j => bigSep Finset.univ fun i => Φ i j := by
  rw [← bigSep_univ_prod fun q : I × J => Φ q.1 q.2, bigSep_univ_equiv (Equiv.prodComm J I), bigSep_univ_prod]
  rfl

omit [FloatOps F] in
/-- Something of every device, moved along a permutation for each index. -/
theorem move {I : Type} [Fintype I] [DecidableEq I] (e : I → Dev nD ≃ Dev nD) (Φ : Dev nD → I → sProp 𝕄) :
    (bigSep Finset.univ fun c : Dev nD => bigSep Finset.univ fun i => Φ c i)
      = bigSep Finset.univ fun c : Dev nD => bigSep Finset.univ fun i => Φ (e i c) i := by
  rw [swap Φ, swap fun c i => Φ (e i c) i]
  exact bigSep_congr fun i _ => bigSep_univ_equiv (e i) fun c => Φ c i

omit [FloatOps F] in
theorem fin_Ico (n : ℕ) (Ψ : ℕ → sProp 𝕄) : (bigSep Finset.univ fun k : Fin n => Ψ k) = bigSep (Finset.Ico 0 n) Ψ := by
  rw [← Finset.range_eq_Ico]
  exact Ring.bigSep_fin_eq_range n _ Ψ fun _ _ => rfl

omit [FloatOps F] in
theorem payToks_eq (c : Dev nD) : payToks (F := F) c
    = iprop((dutyTok ER (cell (dst true c) .bar) 0 0 ∗ dutyTok ER (cell (dst false c) .bar) 0 1)
      ∗ bigSep (Finset.univ : Finset Half) fun p =>
        iprop((bigSep (Finset.Ico 0 15) fun k => dutyTok ER (cell c (.send p.1 (sl k) p.2)) (k / 2) 0)
          ∗ (bigSep (Finset.Ico 0 15) fun k => dutyTok ER (cell (dst p.1 c) (.recv p.1 (sl (k + 1)) p.2)) (k / 2) 0)
          ∗ (bigSep (Finset.Ico 0 14) fun h => dutyTok ER (cell (src p.1 c) (.credit p.1)) 0 (2 * h + p.2.val)))) := by
  unfold payToks
  rw [bigSep_univ_sum, bigSep_univ_prod, bigSep_univ_eq_bigSepL [false, true] (by decide) (by decide)]
  refine congrArg₂ _ rfl (bigSep_congr fun p _ => ?_)
  rw [bigSep_univ_sum, bigSep_univ_sum, ← fin_Ico, ← fin_Ico, ← fin_Ico]
  rfl

/-! ## The credits -/

def recvT (c : Dev nD) (p : Half) (k : ℕ) : CellTallies nD τ sig ℕ :=
  tallyAt (cell c (.recv p.1 (sl (k + 1)) p.2)) (2 * tm p.1 p.2 k + 11) N
def credT (c : Dev nD) (p : Half) (h : ℕ) : CellTallies nD τ sig ℕ :=
  tallyAt (cell c (.credit p.1)) (2 * tm p.1 p.2 (h + 1) + 10) 1

/-- All that is to come in to device `c`. -/
def T (c : Dev nD) : CellTallies nD τ sig ℕ :=
  tallyAt (cell c .bar) 1 2 + ∑ p : Half, (∑ k ∈ Finset.range 15, recvT c p k + ∑ h ∈ Finset.range 14, credT c p h)

theorem owed_upto (c : Dev nD) : ∀ n ≤ 15, owedFrom c 0
    = owedFrom c (4 * n) + ∑ k ∈ Finset.range n, ∑ p : Half, (dueR c p.1 p.2 k + dueC c p.1 p.2 k)
  | 0, _ => by rw [Finset.range_zero, Finset.sum_empty, add_zero]
  | n + 1, hn => by
    rw [owed_upto c n (by omega), Finset.sum_range_succ]
    have h1 := owedFrom_peel c (ρ := false) (j := 0) (k := n) (by omega)
    have h2 := owedFrom_peel c (ρ := true) (j := 0) (k := n) (by omega)
    have h3 := owedFrom_peel c (ρ := false) (j := 1) (k := n) (by omega)
    have h4 := owedFrom_peel c (ρ := true) (j := 1) (k := n) (by omega)
    rw [show tm false 0 n = 4 * n by rfl] at h1
    rw [show tm true 0 n = 4 * n + 1 by rfl] at h2
    rw [show tm false 1 n = 4 * n + 1 + 1 by rfl] at h3
    rw [show tm true 1 n = 4 * n + 1 + 1 + 1 by rfl] at h4
    rw [h1, h2, h3, h4, show 4 * (n + 1) = 4 * n + 1 + 1 + 1 + 1 by omega, Fintype.sum_prod_type, Fintype.sum_bool, Fin.sum_univ_two,
      Fin.sum_univ_two]
    ac_rfl

theorem owed_eq (c : Dev nD) : owedFrom c 0
    = ∑ p : Half, (∑ k ∈ Finset.range 15, recvT (dst p.1 c) p k + ∑ h ∈ Finset.range 14, credT (src p.1 c) p h) := by
  rw [owed_upto c 15 (Nat.le_refl 15), show 4 * 15 = 60 from rfl, owedFrom_end, zero_add, Finset.sum_comm]
  refine Finset.sum_congr rfl fun p _ => ?_
  rw [Finset.sum_add_distrib]
  refine congrArg₂ _ rfl ?_
  rw [Finset.sum_range_succ', show dueC c p.1 p.2 0 = 0 from if_pos rfl, add_zero]
  exact Finset.sum_congr rfl fun h _ => if_neg (Nat.succ_ne_zero h)

theorem sum_move (e : Half → Dev nD ≃ Dev nD) (f : Dev nD → Half → CellTallies nD τ sig ℕ) : (∑ d, ∑ p, f (e p d) p) = ∑ d, ∑ p, f d p :=
  Finset.sum_comm.trans ((Finset.sum_congr rfl fun p _ => Equiv.sum_comp (e p) fun d => f d p).trans Finset.sum_comm)

theorem owed_sum : (∑ c, O₀ c) = ∑ c, T c := by
  unfold O₀ T
  have h2 (c : Dev nD) : tallyAt (cell c .bar) 1 2 = (tallyAt (cell c .bar) 1 1 + tallyAt (cell c .bar) 1 1 : CellTallies nD τ sig ℕ) :=
    (tallyAt_add (cell c .bar) 1 1 1).symm
  simp only [h2, owed_eq, Finset.sum_add_distrib]
  have hb (ρ : Bool) : (∑ c : Dev nD, tallyAt (cell (dst ρ c) .bar) 1 1) = (∑ c : Dev nD, tallyAt (cell c .bar) 1 1 : CellTallies nD τ sig ℕ) :=
    Equiv.sum_comp (ringE ρ) fun c => (tallyAt (cell c .bar) 1 1 : CellTallies nD τ sig ℕ)
  rw [hb, hb]
  have h3 := sum_move (fun p => ringE p.1) fun d p => ∑ k ∈ Finset.range 15, recvT d p k
  have h4 := sum_move (fun p => (ringE p.1).symm) fun d p => ∑ h ∈ Finset.range 14, credT d p h
  change (∑ d : Dev nD, ∑ p : Half, ∑ k ∈ Finset.range 15, recvT (dst p.1 d) p k) = _ at h3
  change (∑ d : Dev nD, ∑ p : Half, ∑ h ∈ Finset.range 14, credT (src p.1 d) p h) = _ at h4
  rw [h3, h4]
  ac_rfl

/-- All that is to come in to a device comes to its own cells. -/
theorem T_own (d : Dev nD) (g : GSem nD τ sig) (h : T d g ≠ 0) : g.1 = (d : Thread nD τ) := by
  by_contra hne
  have z (i : Cl) (ι n : ℕ) : (tallyAt (cell d i) ι n : CellTallies nD τ sig ℕ) g = 0 := tallyAt_ne_cell (fun e : g = cell d i => hne (by rw [e]; rfl)) ι n
  refine h ?_
  unfold T recvT credT
  simp only [Pi.add_apply, Finset.sum_apply, z, Finset.sum_const_zero, add_zero]

/-- The credits of device `c`, cell by cell. -/
theorem cred_T (c : Dev nD) : (cred (T c) : sProp 𝕄) ⊢ iprop(cred (tallyAt (cell c .bar) 1 2)
    ∗ bigSep (Finset.univ : Finset Half) fun p =>
      iprop((bigSep (Finset.Ico 0 15) fun k => cred (recvT c p k)) ∗ (bigSep (Finset.Ico 0 14) fun h => cred (credT c p h)))) := by
  unfold T
  refine (cred_add _ _).1.trans (sep_mono .rfl ?_)
  rw [Pipeline.cred_finsetSum]
  refine bigSep_mono fun p _ => (cred_add _ _).1.trans ?_
  rw [Pipeline.cred_finsetSum, Pipeline.cred_finsetSum, Finset.range_eq_Ico, Finset.range_eq_Ico]

end Cert.KernelIdeal.Own
-- ==== Proof.Slots.lean ====
/- A communication buffer and its slots. -/
module

public import proofs.«01_k».proof.Proof.Deal
public import Idealize.ShloMosaic.Lib.SparseCore.Launch
public import Idealize.ShloMosaic.Lib.Ring

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem slot_apart {p q : Fin 2 × Fin 2} (h : p ≠ q) : Disjoint (slotRect p.1 p.2).set (slotRect q.1 q.2).set := by
  rw [Finset.disjoint_left]
  intro i hp hq
  have hp0 := Rect.mem_set_unit.mp hp 0
  have hp1 := Rect.mem_set_unit.mp hp 1
  have hq0 := Rect.mem_set_unit.mp hq 0
  have hq1 := Rect.mem_set_unit.mp hq 1
  have e0 : p.1.val = q.1.val := by
    change p.1.val ≤ (i 0 : ℕ) ∧ (i 0 : ℕ) < p.1.val + 1 at hp0
    change q.1.val ≤ (i 0 : ℕ) ∧ (i 0 : ℕ) < q.1.val + 1 at hq0
    omega
  have e1 : p.2.val = q.2.val := by
    change p.2.val ≤ (i 1 : ℕ) ∧ (i 1 : ℕ) < p.2.val + 1 at hp1
    change q.2.val ≤ (i 1 : ℕ) ∧ (i 1 : ℕ) < q.2.val + 1 at hq1
    omega
  exact h (Prod.ext (Fin.ext e0) (Fin.ext e1))

theorem slot_cover : ((Finset.univ : Finset (Fin 2 × Fin 2)).biUnion fun p => (slotRect p.1 p.2).set) = Finset.univ := by
  refine Finset.eq_univ_iff_forall.mpr fun i => Finset.mem_biUnion.mpr ⟨(i 0, i 1), Finset.mem_univ _, Rect.mem_set_unit.mpr fun a => ?_⟩
  have h2 : (i 2 : ℕ) < 256 := (i 2).isLt
  have h3 : (i 3 : ℕ) < 2048 := (i 3).isLt
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (i 2 : ℕ) < 0 + 256; omega⟩
  | ⟨3, _⟩ => exact ⟨Nat.zero_le _, by show (i 3 : ℕ) < 0 + 2048; omega⟩

omit [FloatOps F] in
theorem slot_of {ℓ : Loc nD τ sig} {I : Finset (Idx ℓ)} (f : Buf (Elt F) ℓ) : (ℓ ↦[I]{fullShare} f : sProp 𝕄) ⊢ slot ℓ I := by
  unfold slot
  iintro H
  iexists f
  iexact H

omit [FloatOps F] in
/-- A buffer is its parts, whatever each holds. -/
theorem parts {ℓ : Loc nD τ sig} [Nonempty (Buf (Elt F) ℓ)] (P : Fin 2 × Fin 2 → Finset (Idx ℓ)) (h1 : ∀ p q, p ≠ q → Disjoint (P p) (P q)) (h2 : Finset.univ.biUnion P = Finset.univ) :
    (iprop(∃ f : Buf (Elt F) ℓ, ℓ ↦{fullShare} f) : sProp 𝕄) ⊣⊢ bigSep Finset.univ fun p => slot ℓ (P p) := by
  constructor
  · iintro ⟨%f, H⟩
    have e : (ℓ ↦{fullShare} f : sProp 𝕄) = bigSep Finset.univ fun p => ℓ ↦[P p]{fullShare} f := by
      rw [← pointsTo_biUnion Finset.univ P fun p _ q _ => h1 p q, h2]
    ihave H := (Entails.of_eq e) $$ H
    iapply (show (bigSep Finset.univ fun p => ℓ ↦[P p]{fullShare} f : sProp 𝕄) ⊢ bigSep Finset.univ fun p => slot ℓ (P p) from
      bigSep_mono fun p _ => slot_of f)
    iexact H
  · unfold slot
    iintro H
    ihave H := (BI.bigSep_exists_pi Finset.univ fun (p : Fin 2 × Fin 2) (f : Buf (Elt F) ℓ) => (ℓ ↦[P p]{fullShare} f : sProp 𝕄)) $$ H
    icases H with ⟨%fs, H⟩
    ihave H := (pointsTo_biUnion_join Finset.univ P fs (fs (0, 0)) fun p _ q _ => h1 p q) $$ H
    icases H with ⟨%g, -, H⟩
    iexists g
    ihave H := (Entails.of_eq (by rw [h2] : (ℓ ↦[Finset.univ.biUnion P]{fullShare} g : sProp 𝕄) = ℓ ↦{fullShare} g)) $$ H
    iexact H

/-- A ring's communication buffer, whole, whatever it holds. -/
def bufAny (c : Dev nD) : Bool → sProp 𝕄
  | false => iprop(∃ f : Buf (Elt F) ((c : Thread nD τ).loc cc0_scratch0), ((c : Thread nD τ).loc cc0_scratch0) ↦{fullShare} f)
  | true => iprop(∃ f : Buf (Elt F) ((c : Thread nD τ).loc cc0_scratch1), ((c : Thread nD τ).loc cc0_scratch1) ↦{fullShare} f)

omit [FloatOps F] in
theorem rect_parts (c : Dev nD) (b : Ref sig .tc) [Nonempty (Buf (Elt F) ((c : Thread nD τ).loc b))] (R : Fin 2 × Fin 2 → Rect b.ty.shape) {s' : Shape}
    (hn : ∀ p, s'.numel = (R p).shape.numel) (h1 : ∀ p q, p ≠ q → Disjoint (R p).set (R q).set) (h2 : (Finset.univ.biUnion fun p => (R p).set) = Finset.univ) :
    (iprop(∃ f : Buf (Elt F) ((c : Thread nD τ).loc b), ((c : Thread nD τ).loc b) ↦{fullShare} f) : sProp 𝕄)
      ⊣⊢ bigSep Finset.univ fun p => slot ((((View.whole b).slice (R p)).reshape s' (hn p)).loc (c : Thread nD τ)) (((View.whole b).slice (R p)).reshape s' (hn p)).set := by
  have e (p) : (((View.whole b).slice (R p)).reshape s' (hn p)).set = (R p).set := (View.set_reshape _ _).trans (View.set_slice_whole _ _)
  refine parts (F := F) (ℓ := (c : Thread nD τ).loc b) (fun p => (((View.whole b).slice (R p)).reshape s' (hn p)).set) (fun p q h => ?_) ?_
  · rw [e, e]; exact h1 p q h
  · rw [← h2]; exact congrArg _ (funext fun p => e p)

omit [FloatOps F] in
theorem buf_slots (c : Dev nD) (ρ : Bool) :
    bufAny (F := F) c ρ ⊣⊢ bigSep Finset.univ fun p : Fin 2 × Fin 2 => slotAny c ρ p.1 p.2 := by
  cases ρ
  · haveI : Nonempty (Buf (Elt F) ((c : Thread nD τ).loc cc0_scratch0)) := ⟨fun _ => (0 : BitVec 32)⟩
    exact rect_parts (F := F) c cc0_scratch0 (fun p => slotRect p.1 p.2) (fun _ => squeezes_S1x1x256x2048_S256x2048.numel_eq) (fun p q h => slot_apart h) slot_cover
  · haveI : Nonempty (Buf (Elt F) ((c : Thread nD τ).loc cc0_scratch1)) := ⟨fun _ => (0 : BitVec 32)⟩
    exact rect_parts (F := F) c cc0_scratch1 (fun p => slotRect p.1 p.2) (fun _ => squeezes_S1x1x256x2048_S256x2048.numel_eq) (fun p q h => slot_apart h) slot_cover

omit [FloatOps F] in
/-- The two communication buffers are the slots of the four halves. -/
theorem bufs_slots (c : Dev nD) : iprop(bufAny (F := F) c false ∗ bufAny c true)
    ⊣⊢ bigSep (Finset.univ : Finset Half) fun p => iprop(slotAny c p.1 0 p.2 ∗ slotAny c p.1 1 p.2) := by
  rw [← tri_split fun t => slotAny c t.1 t.2.1 t.2.2, bigSep_univ_prod, bigSep_univ_eq_bigSepL [false, true] (by decide) (by decide)]
  exact ⟨BI.sep_mono (buf_slots c false).1 (buf_slots c true).1, BI.sep_mono (buf_slots c false).2 (buf_slots c true).2⟩

end Cert.KernelIdeal.Own
-- ==== Proof.Share.lean ====
/- What the launch deals, the global step, and one device's share of it. -/
module

public import proofs.«01_k».proof.Proof.Slots
public import Idealize.ShloMosaic.Lib.SparseCore.Launch
public import Idealize.ShloMosaic.Lib.Ring

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → (cc0_stg0_0 : Ref sig .tc).ty.Contents (Elt F)) (Y : Dev nD → (cc0_stg1_0 : Ref sig .tc).ty.Contents (Elt F))

theorem cellq_injective : Function.Injective (fun q : Dev nD × Cl => cell q.1 q.2) := fun q q' h => by
  obtain ⟨h1, h2⟩ := cell_inj h
  exact Prod.ext h1 h2

def ringCells : Finset (GSem nD τ sig) := Finset.univ.map ⟨_, cellq_injective⟩
def ringToks : Finset (GSem nD τ sig × ℕ × ℕ) := Finset.univ.map ⟨tokOf, tokOf_injective⟩

/-- The element of the rounds and of the releases at launch. -/
def v₀ : UV := (initOf ringCells ringToks, initSlots keys 1)

/-- What device `c` is dealt: the states of its cells and its positions at them, its own cells' tokens; device 0 the releases. -/
def G (c : Dev nD) : sProp 𝕄 :=
  iprop((bigSep Finset.univ fun i : Cl => roundState ER (Rd X Y) (cell c i) 0)
    ∗ (bigSep Finset.univ fun i : Cl => iprop(atPos ER (cell c i) 0 ∅ 0 ∗ reached ER (cell c i) 0))
    ∗ (bigSep Finset.univ fun i : TokIx => tok (c, i))
    ∗ if c = 0 then BI.own (ES (initSlots keys 1)) else emp)

omit [FloatOps F] in
theorem fund : BI.own (EV v₀) ⊢ (|==> bigSep Finset.univ (G X Y) : sProp 𝕄) := by
  have hX (Φ : GSem nD τ sig → sProp 𝕄) : bigSep ringCells Φ = bigSep Finset.univ fun c : Dev nD => bigSep Finset.univ fun i : Cl => Φ (cell c i) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun i : TokIx => tok (c, i) := by
    unfold ringToks; rw [bigSep_map, bigSep_univ_prod]; rfl
  unfold v₀
  iintro H
  ihave H := (own_pair_emb EV (initOf ringCells ringToks) (initSlots keys 1)) $$ H
  icases H with ⟨HX, HS⟩
  imod (Rounds.fund ER (Rd X Y) ringCells ringToks) $$ HX with ⟨Hst, Hr, Hat, Htok⟩
  imodintro
  ihave Hst' := (Entails.of_eq (hX fun g => roundState ER (Rd X Y) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  isplitl [Htok']; · iexact Htok'
  iapply (show BI.own (ES (initSlots keys 1)) ⊢ (bigSep Finset.univ fun c : Dev nD => iprop(if c = 0 then BI.own (ES (initSlots keys 1)) else emp) : sProp 𝕄) from by
    rw [bigSep_univ_at _ (0 : Dev nD), if_pos rfl]
    rw [bigSep_congr (s := Finset.univ.erase (0 : Dev nD)) (Ψ := fun _ => iprop(emp)) fun c hc => if_neg (Finset.ne_of_mem_erase hc),
      show (bigSep (Finset.univ.erase (0 : Dev nD)) fun _ => iprop(emp) : sProp 𝕄) = iprop(emp) from bigSep_emp_const _]
    iintro H
    isplitl [H]; · iexact H
    iempintro)
  iexact HS

/-! ## The global step -/

variable (K : Dev nD × Cl → ℕ) (J : Key → ℕ)

/-- What every device knows: the cells, the slots, and that every cell is in its first round. -/
def recs : sProp 𝕄 :=
  iprop((bigSep Finset.univ fun q : Dev nD × Cl => cellInv ER (Rd X Y) (K q) (cell q.1 q.2))
    ∗ (bigSep keys fun k => slotInv ES (J k) k (keySlot k))
    ∗ bigSep Finset.univ fun q : Dev nD × Cl => reached ER (cell q.1 q.2) 0)

instance recs_persistent : BI.Persistent (recs (F := F) X Y K J) := by unfold recs; infer_instance

/-- What stays with device `c`: its positions, the tokens it pays with, its claims to its slots and to those it releases. -/
def lin (c : Dev nD) : sProp 𝕄 :=
  iprop((bigSep Finset.univ fun i : Cl => atPos ER (cell c i) 0 ∅ 0) ∗ payToks c
    ∗ (bigSep (Finset.univ : Finset Half) fun p => bigSep (Finset.Ico 0 14) fun h => readerAt ES ((c, p), h) 0)
    ∗ (bigSep (Finset.univ : Finset Half) fun p => bigSep (Finset.Ico 0 14) fun h => writeTok ES ((dst p.1 c, p), h) 1))

/-- What the global step makes of the deal. -/
def G' (c : Dev nD) : sProp 𝕄 := iprop(∃ K J, recs X Y K J ∗ lin c)

omit [FloatOps F] in
theorem by_key (Φ : Key → sProp 𝕄) : bigSep keys Φ
    = bigSep Finset.univ fun c : Dev nD => bigSep (Finset.univ : Finset Half) fun p => bigSep (Finset.Ico 0 14) fun h => Φ ((c, p), h) := by
  unfold keys
  rw [SparseCore.bigSep_product, bigSep_univ_prod, Finset.range_eq_Ico]

omit [FloatOps F] in
theorem writers : (bigSep (keys ×ˢ Finset.range 1) fun x => (writeTok ES x.1 (x.2 + 1) : sProp 𝕄))
    = bigSep Finset.univ fun c : Dev nD => bigSep (Finset.univ : Finset Half) fun p => bigSep (Finset.Ico 0 14) fun h => writeTok ES ((dst p.1 c, p), h) 1 := by
  rw [SparseCore.bigSep_product, by_key]
  have e (k : Key) : (bigSep (Finset.range 1) fun b => (writeTok ES (k, b).1 ((k, b).2 + 1) : sProp 𝕄)) = writeTok ES k 1 := by
    rw [Finset.range_one, bigSep_singleton]
  simp only [e]
  exact move (fun p : Half => ringE p.1) fun c p => bigSep (Finset.Ico 0 14) fun h => (writeTok ES ((c, p), h) 1 : sProp 𝕄)

omit [FloatOps F] in
theorem sems0_eq (c : Dev nD) :
    iprop(Pipeline.ownSems0 (Ix := ℕ) (Name := ℕ) (U := UU) (Lvl := ℕ) (Val := Elt F) (τ := τ) osem c ∗ unscopedSems0 c)
      ⊣⊢ (bigSep Finset.univ fun i : Cl => semVal (cell c i) 0 : sProp 𝕄) := by
  rw [cl_own]
  have e : (unscopedSems0 c : sProp 𝕄) = semVal (cell c .bar) 0 := by
    unfold unscopedSems0; rw [bigSep_eq_bigSepL_of_eq [SemLoc.reg barS] (by decide) (by decide)]; rfl
  rw [e]
  exact ⟨BI.sep_comm, BI.sep_comm⟩

omit [FloatOps F] in
theorem alloc : iprop((bigSep Finset.univ fun c : Dev nD => bigSep Finset.univ fun i : Cl => semVal (cell c i) 0)
      ∗ bigSep Finset.univ fun c : Dev nD => bigSep Finset.univ fun i : Cl => roundState ER (Rd X Y) (cell c i) 0)
    ⊢ (|={Set.univ}=> ∃ K : Dev nD × Cl → ℕ, bigSep Finset.univ fun q : Dev nD × Cl => cellInv ER (Rd X Y) (K q) (cell q.1 q.2) : sProp 𝕄) := by
  rw [← bigSep_univ_prod fun q : Dev nD × Cl => semVal (cell q.1 q.2) 0, ← bigSep_univ_prod fun q : Dev nD × Cl => roundState ER (Rd X Y) (cell q.1 q.2) 0,
    ← bigSep_sep']
  iintro H
  have e : (bigSep Finset.univ fun q : Dev nD × Cl => iprop(semVal (cell q.1 q.2) 0 ∗ roundState ER (Rd X Y) (cell q.1 q.2) 0) : sProp 𝕄)
      ⊢ |={Set.univ}=> bigSep Finset.univ fun q : Dev nD × Cl => iprop(∃ κ : ℕ, cellInv ER (Rd X Y) κ (cell q.1 q.2)) :=
    (bigSep_mono fun q _ => (Rounds.body_intro ER (Rd X Y) (cell q.1 q.2)).trans inv_alloc).trans (bigSep_fupd _ _)
  imod e $$ H with H
  imodintro
  iapply (BI.bigSep_exists_pi Finset.univ fun (q : Dev nD × Cl) (κ : ℕ) => (cellInv ER (Rd X Y) κ (cell q.1 q.2) : sProp 𝕄))
  iexact H

theorem glob : (bigSep Finset.univ fun c => iprop(Pipeline.ownSems0 (Ix := ℕ) (Name := ℕ) (U := UU) (Lvl := ℕ) (Val := Elt F) (τ := τ) osem c ∗ unscopedSems0 c ∗ G X Y c) : sProp 𝕄)
    ⊢ |={Set.univ}=> bigSep Finset.univ (G' X Y) := by
  unfold G
  simp only [bigSep_sep']
  iintro ⟨Hos, Hus, Hst, ⟨Hat, Hr⟩, Htok, HS⟩
  have e1 : iprop((bigSep Finset.univ fun c => Pipeline.ownSems0 (Ix := ℕ) (Name := ℕ) (U := UU) (Lvl := ℕ) (Val := Elt F) (τ := τ) osem c) ∗ bigSep Finset.univ fun c : Dev nD => unscopedSems0 c)
      ⊢ (bigSep Finset.univ fun c : Dev nD => bigSep Finset.univ fun i : Cl => semVal (cell c i) 0 : sProp 𝕄) := by
    rw [← bigSep_sep']; exact bigSep_mono fun c _ => (sems0_eq c).1
  ihave Hv := e1 $$ [Hos Hus]
  · isplitl [Hos] <;> iassumption
  imod (alloc X Y) $$ [Hv Hst] with ⟨%K, #HI⟩
  · isplitl [Hv] <;> iassumption
  have e2 : (bigSep Finset.univ fun c : Dev nD => iprop(if c = 0 then BI.own (ES (initSlots keys 1)) else emp) : sProp 𝕄)
      ⊢ iprop(if (0 : Dev nD) = 0 then BI.own (ES (initSlots keys 1)) else emp) := bigSep_elim (Finset.mem_univ _)
  rw [if_pos rfl] at e2
  ihave HS := e2 $$ HS
  imod (slots_init ES keys 1 (keySlot (F := F))) $$ HS with ⟨%J, -, #HJ, Hrd, Hwr⟩
  imodintro
  ihave Hrd := (Entails.of_eq (by_key fun k => (readerAt ES k 0 : sProp 𝕄))) $$ Hrd
  ihave Hwr := (Entails.of_eq (writers (F := F))) $$ Hwr
  ihave Htok := (Entails.of_eq (move payer fun c i => (tok (c, i) : sProp 𝕄))) $$ Htok
  ihave #Hr := (Entails.of_eq (bigSep_univ_prod fun q : Dev nD × Cl => (reached ER (cell q.1 q.2) 0 : sProp 𝕄)).symm) $$ Hr
  have e3 : iprop(recs X Y K J ∗ bigSep Finset.univ lin) ⊢ bigSep Finset.univ (G' (F := F) X Y) :=
    bigSep_with_persistent fun c _ => by
      unfold G'
      iintro ⟨HR, HL⟩
      iexists K, J
      isplitl [HR] <;> iassumption
  iapply e3
  isplitr
  · unfold recs
    isplitl; · iexact HI
    isplitl; · iexact HJ
    iexact Hr
  unfold lin payToks
  simp only [bigSep_sep']
  isplitl [Hat]; · iexact Hat
  isplitl [Htok]; · iexact Htok
  isplitl [Hrd]; · iexact Hrd
  iexact Hwr

/-! ## One device's share, half by half -/

/-- What half `p` takes of device `c`'s share. -/
def laneIn (c : Dev nD) (p : Half) : sProp 𝕄 :=
  iprop((slotAny c p.1 0 p.2 ∗ slotAny c p.1 1 p.2)
    ∗ (atPos ER (cell c (.send p.1 0 p.2)) 0 ∅ 0 ∗ atPos ER (cell c (.send p.1 1 p.2)) 0 ∅ 0)
    ∗ (atPos ER (cell c (.recv p.1 0 p.2)) 0 ∅ 0 ∗ atPos ER (cell c (.recv p.1 1 p.2)) 0 ∅ 0)
    ∗ ((bigSep (Finset.Ico 0 15) fun k => dutyTok ER (cell c (.send p.1 (sl k) p.2)) (k / 2) 0)
          ∗ (bigSep (Finset.Ico 0 15) fun k => dutyTok ER (cell (dst p.1 c) (.recv p.1 (sl (k + 1)) p.2)) (k / 2) 0)
          ∗ (bigSep (Finset.Ico 0 14) fun h => dutyTok ER (cell (src p.1 c) (.credit p.1)) 0 (2 * h + p.2.val)))
    ∗ ((bigSep (Finset.Ico 0 15) fun k => cred (recvT c p k)) ∗ (bigSep (Finset.Ico 0 14) fun h => cred (credT c p h)))
    ∗ (bigSep (Finset.Ico 0 14) fun h => readerAt ES ((c, p), h) 0)
    ∗ (bigSep (Finset.Ico 0 14) fun h => writeTok ES ((dst p.1 c, p), h) 1))

theorem recs_reached (d : Dev nD) (i : Cl) : recs (F := F) X Y K J ⊢ reached ER (cell d i) 0 := by
  unfold recs
  iintro ⟨-, -, H⟩
  have h : (bigSep Finset.univ fun q : Dev nD × Cl => (reached ER (cell q.1 q.2) 0 : sProp 𝕄)) ⊢ reached ER (cell d i) 0 := bigSep_elim (Finset.mem_univ (d, i))
  iapply h
  iexact H

theorem lane_intro (c : Dev nD) (p : Half) : iprop(recs X Y K J ∗ laneIn c p)
    ⊢ iprop(lanePre c p.1 p.2 ∗ (slotAny (F := F) c p.1 1 p.2 ∗ reached ER (cell c (.recv p.1 1 p.2)) 0)) := by
  have e1 : bigSep (Finset.Ico 0 15) (sendTok (F := F) c p.1 p.2) = iprop((bigSep (Finset.Ico 0 15) fun k => dutyTok ER (cell c (.send p.1 (sl k) p.2)) (k / 2) 0)
      ∗ (bigSep (Finset.Ico 0 15) fun k => dutyTok ER (cell (dst p.1 c) (.recv p.1 (sl (k + 1)) p.2)) (k / 2) 0)
      ∗ bigSep (Finset.Ico 0 15) fun k => cred (recvT c p k)) := by
    rw [← bigSep_sep', ← bigSep_sep']; rfl
  have e2 : bigSep (Finset.Ico 0 14) (credTok (F := F) c p.1 p.2) = iprop((bigSep (Finset.Ico 0 14) fun h => dutyTok ER (cell (src p.1 c) (.credit p.1)) 0 (2 * h + p.2.val))
      ∗ (bigSep (Finset.Ico 0 14) fun h => cred (credT c p h))
      ∗ (bigSep (Finset.Ico 0 14) fun h => readerAt ES ((c, p), h) 0)
      ∗ (bigSep (Finset.Ico 0 14) fun h => writeTok ES ((dst p.1 c, p), h) 1)) := by
    rw [← bigSep_sep', ← bigSep_sep', ← bigSep_sep']; rfl
  unfold laneIn lanePre
  rw [e1, e2]
  iintro ⟨#HR, ⟨Hs0, Hs1⟩, ⟨Ha0, Ha1⟩, ⟨Hb0, Hb1⟩, ⟨Hd0, Hd1, Hd2⟩, ⟨Hc0, Hc1⟩, Hrd, Hwr⟩
  isplitr [Hs1]
  · isplitl [Hs0]; · iexact Hs0
    isplitl [Ha0]
    · isplitl [Ha0]; · iexact Ha0
      iapply (recs_reached X Y K J c _); iexact HR
    isplitl [Ha1]
    · isplitl [Ha1]; · iexact Ha1
      iapply (recs_reached X Y K J c _); iexact HR
    isplitl [Hb0]
    · isplitl [Hb0]; · iexact Hb0
      iapply (recs_reached X Y K J c _); iexact HR
    isplitl [Hb1]; · iexact Hb1
    isplitl [Hd0 Hd1 Hc0]
    · isplitl [Hd0]; · iexact Hd0
      isplitl [Hd1]; · iexact Hd1
      iexact Hc0
    isplitl [Hd2]; · iexact Hd2
    isplitl [Hc1]; · iexact Hc1
    isplitl [Hrd]; · iexact Hrd
    iexact Hwr
  · isplitl [Hs1]; · iexact Hs1
    iapply (recs_reached X Y K J c _); iexact HR

/-- The share a device starts with, its two communication buffers beside it, is what its run begins with. -/
theorem begun_intro (c : Dev nD) : iprop(recs X Y K J ∗ lin c ∗ cred (T c) ∗ levAts L lv ∗ (bufAny c false ∗ bufAny c true))
    ⊢ iprop(Ctx X Y K J ∗ begun (F := F) c) := by
  unfold lin begun heardR barPre
  rw [cl_split, payToks_eq, each_eq]
  iintro ⟨#HR, ⟨⟨HaB, Hac, Has, Har⟩, ⟨⟨Ht0, Ht1⟩, Htok⟩, Hrd, Hwr⟩, Hc, Hlev, Hbuf⟩
  ihave Hc := (cred_T (F := F) c) $$ Hc
  icases Hc with ⟨HcB, Hc⟩
  ihave Hbuf := (bufs_slots (F := F) c).1 $$ Hbuf
  have e1 : iprop((bigSep (Finset.univ : Finset Half) fun p => iprop(slotAny c p.1 0 p.2 ∗ slotAny c p.1 1 p.2))
      ∗ (bigSep (Finset.univ : Finset Half) fun p => iprop(atPos ER (cell c (.send p.1 0 p.2)) 0 ∅ 0 ∗ atPos ER (cell c (.send p.1 1 p.2)) 0 ∅ 0))
      ∗ (bigSep (Finset.univ : Finset Half) fun p => iprop(atPos ER (cell c (.recv p.1 0 p.2)) 0 ∅ 0 ∗ atPos ER (cell c (.recv p.1 1 p.2)) 0 ∅ 0))
      ∗ (bigSep (Finset.univ : Finset Half) fun p => iprop((bigSep (Finset.Ico 0 15) fun k => dutyTok ER (cell c (.send p.1 (sl k) p.2)) (k / 2) 0)
          ∗ (bigSep (Finset.Ico 0 15) fun k => dutyTok ER (cell (dst p.1 c) (.recv p.1 (sl (k + 1)) p.2)) (k / 2) 0)
          ∗ (bigSep (Finset.Ico 0 14) fun h => dutyTok ER (cell (src p.1 c) (.credit p.1)) 0 (2 * h + p.2.val))))
      ∗ (bigSep (Finset.univ : Finset Half) fun p => iprop((bigSep (Finset.Ico 0 15) fun k => cred (recvT c p k)) ∗ (bigSep (Finset.Ico 0 14) fun h => cred (credT c p h))))
      ∗ (bigSep (Finset.univ : Finset Half) fun p => bigSep (Finset.Ico 0 14) fun h => readerAt ES ((c, p), h) 0)
      ∗ (bigSep (Finset.univ : Finset Half) fun p => bigSep (Finset.Ico 0 14) fun h => writeTok ES ((dst p.1 c, p), h) 1))
      ⊢ bigSep Finset.univ (laneIn (F := F) c) := by
    unfold laneIn
    simp only [bigSep_sep']
    exact .rfl
  have e2 : iprop(recs X Y K J ∗ bigSep Finset.univ (laneIn (F := F) c)) ⊢ iprop((bigSep (Finset.univ : Finset Half) fun p => lanePre c p.1 p.2)
      ∗ (bigSep (Finset.univ : Finset Half) fun p => iprop(slotAny (F := F) c p.1 1 p.2 ∗ reached ER (cell c (.recv p.1 1 p.2)) 0))) := by
    rw [← bigSep_sep']
    exact bigSep_with_persistent fun p _ => lane_intro X Y K J c p
  rw [← each_eq fun ρ j => iprop(slotAny (F := F) c ρ 1 j ∗ reached ER (cell c (.recv ρ 1 j)) 0)] at e2
  ihave H := (e2) $$ [Hbuf Has Har Htok Hc Hrd Hwr]
  · isplitr; · iexact HR
    iapply e1
    isplitl [Hbuf]; · iexact Hbuf
    isplitl [Has]; · iexact Has
    isplitl [Har]; · iexact Har
    isplitl [Htok]; · iexact Htok
    isplitl [Hc]; · iexact Hc
    isplitl [Hrd]; · iexact Hrd
    iexact Hwr
  icases H with ⟨Hl, Hrdy⟩
  unfold each ready
  icases Hrdy with ⟨⟨Hy0, Hy1⟩, Hy2, Hy3⟩
  isplitl [Hlev]
  · unfold recs Ctx
    icases HR with ⟨#HI, #HJ, -⟩
    isplitr; · iexact HI
    isplitr; · iexact HJ
    iexact Hlev
  isplitr
  · isplitr
    · iapply (recs_reached X Y K J _ _); iexact HR
    · iapply (recs_reached X Y K J _ _); iexact HR
  isplitl [HaB HcB Ht0 Ht1]
  · isplitl [HaB]; · iexact HaB
    isplitl [HcB]; · iexact HcB
    isplitl [Ht0]
    · isplitl [Ht0]; · iexact Ht0
      iapply (recs_reached X Y K J _ _); iexact HR
    · isplitl [Ht1]; · iexact Ht1
      iapply (recs_reached X Y K J _ _); iexact HR
  isplitl [Hy0 Hy1 Hy2 Hy3]
  · isplitl [Hy0 Hy2]
    · isplitl [Hy0] <;> iassumption
    · isplitl [Hy1] <;> iassumption
  isplitl [Hac]; · iexact Hac
  iexact Hl

omit [FloatOps F] in
/-- What a device's run ends with gives back its semaphores, at zero, and its two communication buffers. -/
theorem ended_elim (c : Dev nD) : ended (F := F) c
    ⊢ iprop((bigSep Finset.univ fun i : Cl => semVal (cell c i) 0) ∗ (bufAny c false ∗ bufAny c true)) := by
  unfold ended laneEnd
  rw [each_eq, cl_split]
  simp only [bigSep_sep']
  iintro ⟨Hb, Hc, Hs, Hv, Hr⟩
  isplitr [Hs]
  · isplitl [Hb]; · iexact Hb
    isplitl [Hc]; · iexact Hc
    isplitl [Hv] <;> iassumption
  · iapply (bufs_slots (F := F) c).2
    rw [bigSep_sep']
    iexact Hs

end Cert.KernelIdeal.Own
-- ==== Proof.Launch.lean ====
/- The run of the whole mesh: every device's result, and every counter back at zero. -/
module

public import proofs.«01_k».proof.Proof.Share
public import Idealize.ShloMosaic.Lib.SparseCore.Launch
public import Idealize.ShloMosaic.Lib.Ring
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation cellOf)
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (pr : Dev nD → PrngReg)

/-! ## The pipeline's proof data -/

/-- The memory at launch, every counter at zero. -/
def s₀ : MemSt nD τ sig (Elt F) := ⟨m, fun _ => 0, pr⟩

/-- The staged blocks: the two operands and the two scales. -/
def xin (c : Dev nD) : (cc0_stg0_0 : Ref sig .tc).ty.Contents (Elt F) := (win0_0.blk t0_0).view.read (Elt F) (m ((c : Thread nD τ).loc main_arg0))
def win (c : Dev nD) : (cc0_stg1_0 : Ref sig .tc).ty.Contents (Elt F) := (win0_1.blk t0_0).view.read (Elt F) (m ((c : Thread nD τ).loc main_arg1))
def ain (c : Dev nD) : (cc0_stg2_0 : Ref sig .tc).ty.Contents (Elt F) := (win0_2.blk t0_0).view.read (Elt F) (m ((c : Thread nD τ).loc main_arg2))
def bin (c : Dev nD) : (cc0_stg3_0 : Ref sig .tc).ty.Contents (Elt F) := (win0_3.blk t0_0).view.read (Elt F) (m ((c : Thread nD τ).loc main_arg3))

/-- Device `c`'s result. -/
def res (c : Dev nD) : (cc0_stg4_0 : Ref sig .tc).ty.Contents (Elt F) := OUT (xin m) (win m) (scl (ain m) (bin m)) c

/-- What a device's body starts from, its buffers aside. -/
def start (c : Dev nD) : sProp 𝕄 := iprop(G' (xin m) (win m) c ∗ cred (T c) ∗ levAts L lv)

def Φ₀ (c : Dev nD) : sProp 𝕄 := iprop(start m c ∗ (bufAny c false ∗ bufAny c true))

def dats (_ : Fin 1) (c : Dev nD) : Dat τ (Elt F) ℕ ℕ UU ℕ cfg0 c where
  A w := (s₀ m pr).mem ((cfg0.win w).arr.view.loc (c : Thread nD τ))
  after w _ := match w with
    | ⟨0, _⟩ => xin m c
    | ⟨1, _⟩ => win m c
    | ⟨2, _⟩ => ain m c
    | ⟨3, _⟩ => bin m c
    | ⟨4, _⟩ => res m c
  Φ t := match t with
    | ⟨0, _⟩ => Φ₀ m c
    | ⟨_ + 1, _⟩ => ended c
  q _ := fullShare
  owed t := match t with
    | ⟨0, _⟩ => O₀ c
    | ⟨_ + 1, _⟩ => 0

omit [FloatOps F] in
theorem owns_whole_eq (c : Dev nD) (b : Ref sig .tc) (Z : b.ty.Contents (Elt F)) :
    (owns (Ix := ℕ) (Name := ℕ) (U := UU) (Lvl := ℕ) (c : Thread nD τ) (Memref.whole b) fullShare Z : sProp 𝕄)
      = iprop(∃ f : Buf (Elt F) (((c : Dev nD) : Thread nD τ).loc b), ⌜f = Z⌝ ∗ (((c : Thread nD τ).loc b) ↦{fullShare} f)) := by
  unfold owns; simp only [Memref.view_whole, View.read_whole, View.set_whole]

/-- A staging buffer, held at `Z`. -/
abbrev stg (c : Dev nD) (b : Ref sig .tc) (Z : b.ty.Contents (Elt F)) : sProp 𝕄 :=
  iprop(∃ f : Buf (Elt F) ((c : Thread nD τ).loc b), ⌜f = Z⌝ ∗ (((c : Thread nD τ).loc b) ↦{fullShare} f))

omit [FloatOps F] in
/-- A whole buffer's view is the buffer. -/
theorem whole_pts (c : Dev nD) (b : Ref sig .tc) (f : b.ty.Contents (Elt F)) :
    ((View.whole b).loc (c : Thread nD τ) ↦[(View.whole b).set]{fullShare} f : sProp 𝕄) = (((c : Thread nD τ).loc b) ↦{fullShare} f) := by
  rw [View.set_whole]

set_option maxRecDepth 4000 in
def bodyPre (c : Dev nD) : sProp 𝕄 :=
  iprop(Φ₀ m c ∗ (dats m pr 0 c).owesAt 0 t0_0.castSucc
    ∗ (∃ d, stg c cc0_stg0_0 ((dats m pr 0 c).before (0 : Fin 5) t0_0 d))
    ∗ (∃ d, stg c cc0_stg1_0 ((dats m pr 0 c).before (1 : Fin 5) t0_0 d))
    ∗ (∃ d, stg c cc0_stg2_0 ((dats m pr 0 c).before (2 : Fin 5) t0_0 d))
    ∗ (∃ d, stg c cc0_stg3_0 ((dats m pr 0 c).before (3 : Fin 5) t0_0 d))
    ∗ (∃ d, stg c cc0_stg4_0 ((dats m pr 0 c).before (4 : Fin 5) t0_0 d)))

def bodyPost (c : Dev nD) : sProp 𝕄 :=
  iprop(ended c ∗ (dats m pr 0 c).owesAt 0 t0_0.succ
    ∗ stg c cc0_stg0_0 (xin m c) ∗ stg c cc0_stg1_0 (win m c) ∗ stg c cc0_stg2_0 (ain m c) ∗ stg c cc0_stg3_0 (bin m c) ∗ stg c cc0_stg4_0 (res m c))

set_option maxRecDepth 4000 in
theorem chain_body (c : Dev nD) : bodyPre m pr c ⊢ WP c chain (fun _ => bodyPost m pr c) := by
  unfold bodyPre Φ₀ start G'
  iintro ⟨⟨⟨⟨%K, %J, HR, HL⟩, Hc, Hlev⟩, Hbuf⟩, Ho, ⟨%d0, %f0, %hf0, H0⟩, ⟨%d1, %f1, %hf1, H1⟩, ⟨%d2, %f2, %hf2, H2⟩, ⟨%d3, %f3, %hf3, H3⟩, ⟨%d4, %f4, -, H4⟩⟩
  have h0 : f0 = xin m c := by rw [hf0]; unfold Dat.before; rw [if_pos (show (cfg0.win (0 : Fin 5)).fetch t0_0 = true from rfl)]; rfl
  have h1 : f1 = win m c := by rw [hf1]; unfold Dat.before; rw [if_pos (show (cfg0.win (1 : Fin 5)).fetch t0_0 = true from rfl)]; rfl
  have h2 : f2 = ain m c := by rw [hf2]; unfold Dat.before; rw [if_pos (show (cfg0.win (2 : Fin 5)).fetch t0_0 = true from rfl)]; rfl
  have h3 : f3 = bin m c := by rw [hf3]; unfold Dat.before; rw [if_pos (show (cfg0.win (3 : Fin 5)).fetch t0_0 = true from rfl)]; rfl
  subst h0 h1 h2 h3
  unfold Dat.owesAt Pipeline.owesWithin
  icases Ho with ⟨%W, %hW, HO⟩
  rw [show (dats m pr 0 c).owed t0_0.castSucc = O₀ c from rfl]
  ihave H := (begun_intro (xin m) (win m) K J c) $$ [HR HL Hc Hlev Hbuf]
  · isplitl [HR]; · iexact HR
    isplitl [HL]; · iexact HL
    isplitl [Hc]; · iexact Hc
    isplitl [Hlev]; · iexact Hlev
    iexact Hbuf
  icases H with ⟨HC, HB⟩
  iapply (chain_spec (xin m) (win m) (ain m) (bin m) K J c (W := W)) $$ [HC HB H0 H1 H2 H3 H4 HO]
  · isplitl [HC]; · iexact HC
    isplitl [HB]; · iexact HB
    isplitl [H0 H1]
    · unfold ops xPts wPts
      isplitl [H0]
      · iapply (Entails.of_eq (whole_pts c cc0_stg0_0 (xin m c)).symm); iexact H0
      · iapply (Entails.of_eq (whole_pts c cc0_stg1_0 (win m c)).symm); iexact H1
    isplitl [H2 H3]
    · unfold scales
      isplitl [H2]
      · iapply (Entails.of_eq (whole_pts c cc0_stg2_0 (ain m c)).symm); iexact H2
      · iapply (Entails.of_eq (whole_pts c cc0_stg3_0 (bin m c)).symm); iexact H3
    isplitl [H4]
    · unfold outSt
      iexists f4
      isplitr; · ipureintro; exact fun p hp => absurd hp (Finset.notMem_empty p)
      iapply (Entails.of_eq (whole_pts c cc0_stg4_0 f4).symm); iexact H4
    iexact HO
  iintro ⟨HE, Hops, Hsc, Hout, ⟨%W', HO⟩⟩
  unfold bodyPost Dat.owesAt Pipeline.owesWithin
  rw [show (dats m pr 0 c).owed t0_0.succ = 0 from rfl]
  isplitl [HE]; · iexact HE
  isplitl [HO]
  · iexists W'
    isplitr; · ipureintro; exact fun _ _ => Or.inl trivial
    iexact HO
  unfold ops xPts wPts
  icases Hops with ⟨H0, H1⟩
  unfold scales
  icases Hsc with ⟨H2, H3⟩
  unfold outSt
  icases Hout with ⟨%f, %hf, H4⟩
  isplitl [H0]
  · iexists _; isplitr; · ipureintro; rfl
    iapply (Entails.of_eq (whole_pts c cc0_stg0_0 (xin m c))); iexact H0
  isplitl [H1]
  · iexists _; isplitr; · ipureintro; rfl
    iapply (Entails.of_eq (whole_pts c cc0_stg1_0 (win m c))); iexact H1
  isplitl [H2]
  · iexists _; isplitr; · ipureintro; rfl
    iapply (Entails.of_eq (whole_pts c cc0_stg2_0 (ain m c))); iexact H2
  isplitl [H3]
  · iexists _; isplitr; · ipureintro; rfl
    iapply (Entails.of_eq (whole_pts c cc0_stg3_0 (bin m c))); iexact H3
  iexists f
  isplitr
  · ipureintro; exact hf.unique _ _ _ (Agree.exists _ _ _ c).choose_spec
  iapply (Entails.of_eq (whole_pts c cc0_stg4_0 f)); iexact H4

set_option maxRecDepth 65536 in
/-- The body obligation on core `c`. -/
theorem body_obligation (c : Dev nD) : BodyObligation (dats (F := F) m pr 0 c) (defs₀ (F := F)) 𝒱₀ 0 Set.univ := fun t => by
  rw [show t = t0_0 from fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole_eq]
  show bodyPre m pr c ⊢ wp frame (wpE (defs₀ (F := F)) 𝒱₀ c none) Set.univ
    (cc0_body xM (Memref.isWhole_whole _) wM (Memref.isWhole_whole _) s0M (Memref.isWhole_whole _)
      s1M (Memref.isWhole_whole _) oM (Memref.isWhole_whole _) (Memref.whole cc0_scratch0) (Memref.isWhole_whole _)
      (Memref.whole cc0_scratch1) (Memref.isWhole_whole _) cc0_scratch2 cc0_scratch3 cc0_scratch4 cc0_scratch5
      cc0_scratch6 cc0_scratch7) (fun _ => bodyPost m pr c)
  rw [body_eq]
  exact chain_body m pr c

/-! ## The launch -/

theorem ownSemFacts : Pipeline.OwnSemFacts cfg0.spec osem := by decide +kernel

theorem share_eq (c : Dev nD) (w : Fin cfg0.W) : (dats m pr 0 c).share w = fullShare := by unfold Dat.share; split <;> rfl

def u₀ : UU := (initOf (Pipeline.cells cfgs cellOf_inj) (Pipeline.launchToks cfgs cellOf_inj), v₀)

theorem start_intro (c : Dev nD) :
    iprop(Pipeline.unscopedRestP Pipeline.Prefetch.none cfg0.spec c (fun b => m ((c : Thread nD τ).loc b)) ∗ levAts L lv
        ∗ Pipeline.launchCred O₀ c ∗ prngReg c (pr c) ∗ G' (xin m) (win m) c)
      ⊢ |={Set.univ}=> iprop(start m c ∗ emp) := by
  have e : (Pipeline.launchCred O₀ c : sProp 𝕄) = cred (T c) := Pipeline.launchCred_of_sum O₀ T owed_sum T_own c
  rw [e]
  iintro ⟨-, Hlev, Hcr, -, HG⟩
  imodintro
  unfold start
  isplitl
  · isplitl [HG]; · iexact HG
    isplitl [Hcr]; · iexact Hcr
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m pr 0 c).Φ 0 := by
  rw [show (dats m pr 0 c).Φ 0 = Φ₀ m c from rfl, scopedRest0_eq]
  unfold Φ₀
  iintro ⟨Hs, -, Hr⟩
  isplitl [Hs]; · iexact Hs
  iexact Hr

theorem phi1_exit (c : Dev nD) :
    (dats m pr 0 c).Φ (Fin.last cfg0.N) ⊢ iprop(unscopedSems0 c ∗ Pipeline.ownSems0 osem c ∗ Pipeline.scopedRest cfg0.spec c) := by
  rw [show (dats m pr 0 c).Φ (Fin.last cfg0.N) = ended c from rfl, scopedRest0_eq]
  iintro H
  ihave H := (ended_elim c) $$ H
  icases H with ⟨Hs, Hb⟩
  ihave Hs := (sems0_eq c).2 $$ Hs
  icases Hs with ⟨Ho, Hu⟩
  isplitl [Hu]; · iexact Hu
  isplitl [Ho]; · iexact Ho
  iexact Hb

theorem waits (c : Dev nD) : (levAts L lv : sProp 𝕄) ⊢ Pipeline.cellsWaits cfgs (dats m pr) 0 0 c :=
  Pipeline.cellsWaits_intro cfgs (dats m pr) 0 0 c fun w s t => mayWait c _ (by omega) (by
      rcases t with ⟨_ | _, ht⟩
      · exact ((Above.owedFrom c (by omega)).add (Above.tally _ _ (by omega) (by omega))).add (Above.tally _ _ (by omega) (by omega))
      · exact Above.zero)

/-! ### The run -/

def finalA (c : Dev nD) (w : Fin cfg0.W) : Buf (Elt F) ((cfg0.win w).arr.view.loc (c : Thread nD τ)) := (dats m pr 0 c).arrAt w cfg0.N

def QC : PUnit × MemSt nD τ sig (Elt F) → Prop := fun r =>
  ∀ c : Dev nD, ∀ w : Fin cfg0.W, r.2.mem ((cfg0.win w).arr.view.loc (c : Thread nD τ)) = finalA m pr c w

set_option maxRecDepth 65536 in
/-- From any memory with every counter at zero, every fair run ends, each array holding what the pipeline's data say, every counter at zero. -/
theorem run_main : θ_run defs (onTc (τ := τ) (main (F := F))) (s₀ m pr) (fun r => QC m pr r ∧ r.2.sem = fun _ => 0) :=
  Pipeline.θ_run_region_owing_glob_pf (fun p => (cfgs p).toPCfg) (fun p => (cfgs p).toPCfg_adm) (dats m pr) 0 cellOf_inj (0 : Fin 1)
    winFacts0.to₀ ownSemFacts (Pipeline.PreFacts.none _) EP defs₀ 𝒱₀ m pr main
    (hmain := fun _ => rfl)
    (hbody := body_obligation m pr) (hne := fun w => by fin_cases w <;> exact Nat.succ_pos _) (harr := arr_whole0) (hstage := stage_whole0) (hshare := share_eq m pr)
    (hdistinct := winFacts0.arr_inj)
    (O₀ := O₀) (howed₀ := fun _ => rfl) (howedN := fun _ => rfl)
    (L := L) (lv := lv) (hL := L_of_ne) (hwaits := waits m pr)
    (G := G (xin m) (win m)) (G' := G' (xin m) (win m)) (u₀ := u₀)
    (hu₀ := by
      unfold u₀
      iintro Hu
      ihave H := (ownU_pair _ _) $$ Hu
      icases H with ⟨HP, HX⟩
      imod (fund (xin m) (win m)) $$ HX with HG
      imodintro
      isplitl [HP] <;> iassumption)
    (hglob := glob (xin m) (win m))
    (hA := fun _ _ => rfl) (hpf := fun _ k => k.elim0)
    (X := start m) (Y := fun c => unscopedSems0 c) (Z := fun _ => iprop(emp))
    (hX := start_intro m pr) (hin := phi0_intro m pr) (hout := phi1_exit m pr)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays after it -/

/-- An input's array holds what it held. -/
theorem finalA_in (c : Dev nD) (w : Fin 4) : finalA m pr c (w.castSucc : Fin 5) = (s₀ m pr).mem ((cfg0.win (w.castSucc : Fin 5)).arr.view.loc (c : Thread nD τ)) :=
  (dats (F := F) m pr 0 c).arrAt_in (w.castSucc : Fin 5) (by fin_cases w <;> rfl) _

end Cert.KernelIdeal.Own
-- ==== Proof.Runs.lean ====
/- The kernel's run and its idealization's: the arguments unchanged, every counter at zero. -/
module

public import proofs.«01_k».proof.Proof.Launch
public import proofs.«01_k».proof.Proof.Gen.Kernel.Launch
public import proofs.«01_k».proof.Defs
public import Idealize.ShloMosaic.Lib.Pipeline.ValueKit.Geometry

@[expose] public section

namespace Cert.KernelIdeal.Own

open Cert.KernelIdeal Cert.KernelIdeal.Gen
open Idealize.ShloMosaic Idealize.SL.Sem
open Idealize.ShloMosaic.TcCoe
open Idealize.ShloMosaic.Pipeline

variable {F : FTy → Type} [FloatOps F]

/-- From any memory with every counter at zero, every fair run ends with each device's result as computed, its arguments unchanged and every counter at zero. -/
theorem run (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_v1) = finalA m g c (4 : Fin 5)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (run_main m g).mono fun r h => ⟨fun c => ⟨h.1 c (4 : Fin 5), (h.1 c (0 : Fin 5)).trans (finalA_in m g c 0),
    (h.1 c (1 : Fin 5)).trans (finalA_in m g c 1), (h.1 c (2 : Fin 5)).trans (finalA_in m g c 2), (h.1 c (3 : Fin 5)).trans (finalA_in m g c 3)⟩, h.2⟩

/-- The same, of the arguments and the counters alone. -/
theorem frameIdeal' (m : (ℓ : Loc nD τ sig) → Buf (Elt F) ℓ) (g : Dev nD → PrngReg) :
    θ_run (defs (F := F)) (onTc (τ := τ) (main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (run m g).mono fun _ h => ⟨fun c => (h.1 c).2, h.2⟩

/-- The idealized kernel's frame, its counters back at zero. -/
theorem frameIdeal : quiescent_KernelIdeal := fun m g _ => frameIdeal' m g

/-- The kernel and its idealization are one text: their tables of bodies agree. -/
theorem defs_eq : @Cert.Kernel.defs F _ _ = @Cert.KernelIdeal.defs F _ _ := by
  refine congrArg (Pipeline.defs (Cert.KernelIdeal.pcfgs (F := F)))
    (congrArg (Defs.onTc (τ := Cert.KernelIdeal.τ)) (funext fun ℓ => funext fun a => ?_))
  match ℓ, a with
  | ⟨0, _⟩, (t, s) => rfl

/-- The kernel's frame, its counters back at zero. -/
theorem frameKernel : quiescent_Kernel := fun m g _ => by
  rw [defs_eq]
  exact (frameIdeal' (F := Bits) m g)

/-- The result array after the run is what the body left staged. -/
theorem finalA_out (m : (ℓ : Loc nD τ sig) → Buf (Elt F) ℓ) (g : Dev nD → PrngReg) (c : Dev nD) :
    finalA m g c (4 : Fin 5) = res m c := by
  unfold finalA
  refine Dat.arrAt_eq_of_after_last (dats m g 0 c) (4 : Fin 5) t0_0 (by decide +kernel) (res m c) (fun j => ?_)
  rfl

end Cert.KernelIdeal.Own
-- ==== Proof.Sums.lean ====
/- What a ring's last sum is: the exact integer product of a block of rows, added up over the devices. -/
module

public import proofs.«01_k».proof.Proof.Body
public import Idealize.ShloMosaic.Lib.IntMxu
public import Idealize.ShloMosaic.Lib.Pipeline.Value
public import Idealize.ShloMosaic.Lib.ValueIdxCore

@[expose] public section

noncomputable section

namespace Cert.KernelIdeal.Own

open Cert.KernelIdeal Cert.KernelIdeal.Gen
open Idealize.ShloMosaic Idealize.ShloMosaic.ValueIdx
open scoped BigOperators

variable {F : FTy → Type} [FloatOps F]

/-! ## Which rows a device multiplies -/

/-- The device a sum passing through `d` as transfer `k` ends at: `15 - k` hops on. -/
def goal (ρ : Bool) (k : ℕ) (d : Dev nD) : Dev nD := (dst ρ)^[15 - k] d

theorem goal_last (ρ : Bool) (d : Dev nD) : goal ρ 15 d = d := rfl

theorem goal_src (ρ : Bool) {k : ℕ} (hk : k < 15) (d : Dev nD) : goal ρ k (src ρ d) = goal ρ (k + 1) d := by
  unfold goal
  rw [show 15 - k = (15 - (k + 1)) + 1 by omega, Function.iterate_succ_apply, dst_src]

/-- The rows multiplied for transfer `k` are those of the device the sum ends at. -/
theorem rowOff_eq (ρ : Bool) (d : Dev nD) (k : Fin 16) : rowOff ρ d k = ![256 * (goal ρ k d).val, 0] := by
  have h : ∀ (ρ : Bool) (d : Dev nD) (k : Fin 16), rowOff ρ d k 0 = 256 * (goal ρ k d).val ∧ rowOff ρ d k 1 = 0 := by
    decide +kernel
  funext a
  match a with
  | ⟨0, _⟩ => exact (h ρ d k).1
  | ⟨1, _⟩ => exact (h ρ d k).2

/-! ## The products -/

/-- One product of blocks, at an index: the sum over the contracted coordinate. -/
theorem dotI8_apply (x : IVec S256x256 8) (w : IVec S256x2048 8) (i : S256x2048.Idx) :
    dotI8 dot_S256x256_S256x2048_S256x2048_1_0_0_1_n_n x w i
      = ∑ q : Fin 256, (x (ix2 (i 0) q)).toInt * (w (ix2 q (i 1))).toInt := by
  unfold dotI8
  rw [← Equiv.sum_comp (contrEquiv1 dot_S256x256_S256x2048_S256x2048_1_0_0_1_n_n 256 rfl rfl).symm]
  refine Finset.sum_congr rfl fun q _ => ?_
  have hq := contrEquiv1_symm_val dot_S256x256_S256x2048_S256x2048_1_0_0_1_n_n 256 rfl rfl q
  have el : dot_S256x256_S256x2048_S256x2048_1_0_0_1_n_n.lhsIdx i ((contrEquiv1 _ 256 rfl rfl).symm q) = ix2 (i 0) q := by
    funext a; apply Fin.ext
    match a with
    | ⟨0, _⟩ => rfl
    | ⟨1, _⟩ => exact hq
  have er : dot_S256x256_S256x2048_S256x2048_1_0_0_1_n_n.rhsIdx i ((contrEquiv1 _ 256 rfl rfl).symm q) = ix2 q (i 1) := by
    funext a; apply Fin.ext
    match a with
    | ⟨0, _⟩ => exact hq
    | ⟨1, _⟩ => rfl
  rw [el, er]
  rfl

variable (X : Dev nD → (cc0_stg0_0 : Ref sig .tc).ty.Contents (Elt F)) (Y : Dev nD → (cc0_stg1_0 : Ref sig .tc).ty.Contents (Elt F))

/-- Row `r` of device `e`'s block of rows. -/
def rowIx (e : Dev nD) (r : Fin 256) : Fin 4096 := ⟨256 * e.val + r.val, by have := e.isLt; have : e.val < 16 := this; omega⟩

/-- Column `s` of ring `ρ`'s half `j`. -/
def colIx (ρ : Bool) (j : Fin 2) (s : Fin 2048) : Fin 8192 :=
  ⟨col ρ j + s.val, by have : col ρ j ≤ 6144 := by revert ρ j; decide
                       omega⟩

/-- Device `d`'s share of the whole product at row `r` and column `s`. -/
def share (X : Dev nD → IVec S4096x256 8) (Y : Dev nD → IVec S256x8192 8) (r : Fin 4096) (s : Fin 8192) (d : Dev nD) : ℤ :=
  ∑ q : Fin 256, (X d (ix2 r q)).toInt * (Y d (ix2 q s)).toInt

/-- What a load of the rows of transfer `k` reads. -/
theorem rows_read (Z : (cc0_stg0_0 : Ref sig .tc).ty.Contents (Elt F)) (ρ : Bool) (d : Dev nD) (k : ℕ) (hk : k < 16) (r q : Fin 256) :
    xM.view.readAt (Elt F) (rowRect ρ d k).toLoadRect Z (ix2 r q) = Z (ix2 (rowIx (goal ρ k d) r) q) := by
  have ho := rowOff_eq ρ d (Fin.ofNat 16 k)
  rw [show ((Fin.ofNat 16 k : Fin 16) : ℕ) = k from Nat.mod_eq_of_lt hk] at ho
  show Z ((rowRect ρ d k).emb (ix2 r q)) = _
  congr 1
  funext a; apply Fin.ext
  match a with
  | ⟨0, _⟩ =>
    show rowOff ρ d (Fin.ofNat 16 k) 0 + 1 * r.val = 256 * (goal ρ k d).val + r.val
    rw [ho, one_mul]; rfl
  | ⟨1, _⟩ =>
    show rowOff ρ d (Fin.ofNat 16 k) 1 + 1 * q.val = q.val
    rw [ho, one_mul]; exact Nat.zero_add _

/-- What a load of the columns of ring `ρ`'s half `j` reads. -/
theorem cols_read (Z : (cc0_stg1_0 : Ref sig .tc).ty.Contents (Elt F)) (ρ : Bool) (j : Fin 2) (q : Fin 256) (s : Fin 2048) :
    wM.view.readAt (Elt F) (colRect ρ j).toLoadRect Z (ix2 q s) = Z (ix2 q (colIx ρ j s)) := by
  show Z ((colRect ρ j).emb (ix2 q s)) = _
  congr 1
  funext a; apply Fin.ext
  match a with
  | ⟨0, _⟩ => show 0 + 1 * q.val = q.val; omega
  | ⟨1, _⟩ => show col ρ j + 1 * s.val = col ρ j + s.val; omega

/-- A product of the kernel is exact: the device's share, as a word. -/
theorem prodAt_apply (ρ : Bool) (j : Fin 2) (d : Dev nD) (k : ℕ) (hk : k < 16) (i : S256x2048.Idx) :
    prodAt X Y ρ j d k i = BitVec.ofInt 32 (share X Y (rowIx (goal ρ k d) (i 0)) (colIx ρ j (i 1)) d) := by
  unfold prodAt part
  rw [matmulI8_exact_of_numel _ _ _ _ _ i rfl (by decide), dotI8_apply, shapeCast_self, shapeCast_self]
  congr 1
  unfold share
  refine Finset.sum_congr rfl fun q _ => ?_
  rw [← rows_read (X d) ρ d k hk (i 0) q, ← cols_read (Y d) ρ j q (i 1)]

/-- A sum under way: the shares of the devices it has passed, as a word. -/
theorem sumAt_apply (ρ : Bool) (j : Fin 2) (i : S256x2048.Idx) : ∀ (k : ℕ) (hk : k < 16) (d : Dev nD),
    sumAt X Y ρ j k d i
      = BitVec.ofInt 32 (∑ n ∈ Finset.range (k + 1), share X Y (rowIx (goal ρ k d) (i 0)) (colIx ρ j (i 1)) ((src ρ)^[n] d))
  | 0, hk, d => by
    rw [Finset.sum_range_one]
    exact prodAt_apply X Y ρ j d 0 hk i
  | k + 1, hk, d => by
    show sumAt X Y ρ j k (src ρ d) i + prodAt X Y ρ j d (k + 1) i = _
    rw [sumAt_apply ρ j i k (by omega) (src ρ d), prodAt_apply X Y ρ j d (k + 1) hk i, goal_src ρ (by omega) d,
      ← BitVec.ofInt_add, Finset.sum_range_succ' _ (k + 1)]
    rfl

/-- Going round a ring meets every device once. -/
theorem round (ρ : Bool) (d : Dev nD) (f : Dev nD → ℤ) : ∑ n ∈ Finset.range 16, f ((src ρ)^[n] d) = ∑ e, f e := by
  rw [Finset.sum_range fun n => f ((src ρ)^[n] d)]
  exact Function.Bijective.sum_comp
    ((Fintype.bijective_iff_injective_and_card _).2 ⟨by revert ρ d; decide +kernel, rfl⟩ : Function.Bijective fun n : Fin 16 => (src ρ)^[n.val] d) f

/-- A share is small: 256 products of magnitude at most 2¹⁴. -/
theorem natAbs_share_le (X : Dev nD → IVec S4096x256 8) (Y : Dev nD → IVec S256x8192 8) (r : Fin 4096) (s : Fin 8192) (d : Dev nD) :
    (share X Y r s d).natAbs ≤ 256 * 2 ^ 14 := by
  unfold share
  refine (Int.natAbs_sum_le _ _).trans ((Finset.sum_le_card_nsmul _ _ (2 ^ 14) fun q _ => ?_).trans (le_of_eq rfl))
  rw [Int.natAbs_mul]
  calc _ ≤ 128 * 128 := Nat.mul_le_mul (natAbs_toInt_i8_le _) (natAbs_toInt_i8_le _)
    _ = 2 ^ 14 := by decide

/-- The last sum, read as a signed integer: the whole product. -/
theorem sumAt_last (ρ : Bool) (j : Fin 2) (c : Dev nD) (i : S256x2048.Idx) :
    (sumAt X Y ρ j 15 c i).toInt = ∑ d, share X Y (rowIx c (i 0)) (colIx ρ j (i 1)) d := by
  have e := sumAt_apply X Y ρ j i 15 (by decide) c
  rw [goal_last, round ρ c (share X Y (rowIx c (i 0)) (colIx ρ j (i 1)))] at e
  have h : (∑ d : Dev nD, share X Y (rowIx c (i 0)) (colIx ρ j (i 1)) d).natAbs ≤ 16 * (256 * 2 ^ 14) :=
    (Int.natAbs_sum_le _ _).trans ((Finset.sum_le_card_nsmul _ _ (256 * 2 ^ 14) fun d _ => natAbs_share_le X Y _ _ d).trans (le_of_eq rfl))
  rw [e, BitVec.toInt_ofInt]
  apply Int.bmod_eq_of_le <;> omega

end Cert.KernelIdeal.Own
-- ==== Proof.Equal.lean ====
/- The two programs' results are equal: the reference's product, split over the devices, is the rings' sums. -/
module

public import proofs.«01_k».proof.Proof.Sums
public import proofs.«01_k».proof.Proof.Runs
public import proofs.«01_k».proof.Proof.Gen.ReferenceIdeal.Run
public import Idealize.ShloMosaic.Lib.Layout

@[expose] public section

noncomputable section

namespace Cert.KernelIdeal.Own

open Idealize.ShloMosaic Idealize.ShloMosaic.ValueIdx Idealize.SL.Sem
open Idealize.ShloMosaic.TcCoe
open scoped BigOperators

/-! ## The reference's product -/

/-- The whole product at row `r` and column `s`, an integer. -/
def whole (A : IVec Cert.ReferenceIdeal.S4096x4096 8) (B : IVec Cert.ReferenceIdeal.S4096x8192 8) (r : Fin 4096) (s : Fin 8192) : ℤ :=
  ∑ k : Fin 4096, (A (ix2 r k)).toInt * (B (ix2 k s)).toInt

/-- A sum of integers, read in the extended reals. -/
theorem coe_sum {ι : Type} (t : Finset ι) (f : ι → ℤ) : (((∑ k ∈ t, f k : ℤ) : ℝ) : EReal) = ∑ k ∈ t, (((f k : ℤ) : ℝ) : EReal) := by
  classical
  induction t using Finset.induction_on with
  | empty => simp
  | insert a t ha ih => rw [Finset.sum_insert ha, Finset.sum_insert ha, ← ih, Int.cast_add, EReal.coe_add]

/-- The reference's product of the converted operands is the whole product. -/
theorem dot_whole (A : IVec Cert.ReferenceIdeal.S4096x4096 8) (B : IVec Cert.ReferenceIdeal.S4096x8192 8) (h : 8 < 32)
    (i : Cert.ReferenceIdeal.S4096x8192.Idx) :
    Host.dotGeneral (F := Ideal) (φ₁ := .f32) (φ₂ := .f32) Cert.ReferenceIdeal.dot_S4096x4096_S4096x8192_S4096x8192_1_0_0_1_n_n none (sitofp .f32 (extsi 32 A h))
        (sitofp .f32 (extsi 32 B h)) i
      = (((whole A B (i 0) (i 1) : ℤ) : ℝ) : EReal) := by
  show (0 : EReal) + ∑ k, _ = _
  rw [zero_add, ← Equiv.sum_comp (contrEquiv1 Cert.ReferenceIdeal.dot_S4096x4096_S4096x8192_S4096x8192_1_0_0_1_n_n 4096 rfl rfl).symm]
  unfold whole
  rw [coe_sum]
  refine Finset.sum_congr rfl fun q _ => ?_
  have hq := contrEquiv1_symm_val Cert.ReferenceIdeal.dot_S4096x4096_S4096x8192_S4096x8192_1_0_0_1_n_n 4096 rfl rfl q
  have el : Cert.ReferenceIdeal.dot_S4096x4096_S4096x8192_S4096x8192_1_0_0_1_n_n.lhsIdx i ((contrEquiv1 _ 4096 rfl rfl).symm q) = ix2 (i 0) q := by
    funext a; apply Fin.ext
    match a with
    | ⟨0, _⟩ => rfl
    | ⟨1, _⟩ => exact hq
  have er : Cert.ReferenceIdeal.dot_S4096x4096_S4096x8192_S4096x8192_1_0_0_1_n_n.rhsIdx i ((contrEquiv1 _ 4096 rfl rfl).symm q) = ix2 q (i 1) := by
    funext a; apply Fin.ext
    match a with
    | ⟨0, _⟩ => exact hq
    | ⟨1, _⟩ => rfl
  have wide : ∀ b : BitVec 8, (b.signExtend 32).toInt = b.toInt := fun b => BitVec.toInt_signExtend_of_le (by decide)
  rw [el, er, Int.cast_mul, EReal.coe_mul]
  show (((((A _).signExtend 32).toInt : ℤ) : ℝ) : EReal) * (((((B _).signExtend 32).toInt : ℤ) : ℝ) : EReal) = _
  rw [wide, wide]
  rfl

/-- The whole product is the devices' shares, added up. -/
theorem whole_split (A : IVec Cert.ReferenceIdeal.S4096x4096 8) (B : IVec Cert.ReferenceIdeal.S4096x8192 8)
    (r : Fin 4096) (s : Fin 8192) :
    ∑ d, share (fun c => Layout.block ⟨2, ![4096, 256]⟩ ⟨2, ![4096, 4096]⟩ 1 16 c A)
      (fun c => Layout.block ⟨2, ![256, 8192]⟩ ⟨2, ![4096, 8192]⟩ 0 16 c B) r s d = whole A B r s := by
  unfold share whole
  rw [← Equiv.sum_comp (finProdFinEquiv (m := 16) (n := 256)), Fintype.sum_prod_type]
  refine Finset.sum_congr rfl fun d _ => Finset.sum_congr rfl fun q _ => ?_
  have el : (by decide : Layout.Tiles ⟨2, ![4096, 256]⟩ ⟨2, ![4096, 4096]⟩ 1 16).idx d (ix2 r q) = ix2 r (finProdFinEquiv (d, q)) := by
    funext a; apply Fin.ext
    match a with
    | ⟨0, _⟩ => rfl
    | ⟨1, _⟩ => show d.val * 256 + q.val = q.val + 256 * d.val; omega
  have er : (by decide : Layout.Tiles ⟨2, ![256, 8192]⟩ ⟨2, ![4096, 8192]⟩ 0 16).idx d (ix2 q s) = ix2 (finProdFinEquiv (d, q)) s := by
    funext a; apply Fin.ext
    match a with
    | ⟨0, _⟩ => show d.val * 256 + q.val = q.val + 256 * d.val; omega
    | ⟨1, _⟩ => rfl
  simp only [Layout.block_apply]
  rw [el, er]
  rfl

/-! ## The two results -/

section
open Cert.KernelIdeal Cert.KernelIdeal.Gen

variable {F : FTy → Type} [FloatOps F]

/-- The staged operands and scales are the arguments. -/
theorem xin_eq (m : (ℓ : Loc nD τ sig) → Buf (Elt F) ℓ) (c : Dev nD) : xin m c = m ((c : Thread nD τ).loc main_arg0) :=
  Memref.read_access_unit_zero (Elt F) main_arg0 (funext fun a => by fin_cases a <;> decide) (fun a => by fin_cases a <;> decide) _
theorem win_eq (m : (ℓ : Loc nD τ sig) → Buf (Elt F) ℓ) (c : Dev nD) : win m c = m ((c : Thread nD τ).loc main_arg1) :=
  Memref.read_access_unit_zero (Elt F) main_arg1 (funext fun a => by fin_cases a <;> decide) (fun a => by fin_cases a <;> decide) _
theorem ain_eq (m : (ℓ : Loc nD τ sig) → Buf (Elt F) ℓ) (c : Dev nD) : ain m c = m ((c : Thread nD τ).loc main_arg2) :=
  Memref.read_access_unit_zero (Elt F) main_arg2 (funext fun a => by fin_cases a <;> decide) (fun a => by fin_cases a <;> decide) _
theorem bin_eq (m : (ℓ : Loc nD τ sig) → Buf (Elt F) ℓ) (c : Dev nD) : bin m c = m ((c : Thread nD τ).loc main_arg3) :=
  Memref.read_access_unit_zero (Elt F) main_arg3 (funext fun a => by fin_cases a <;> decide) (fun a => by fin_cases a <;> decide) _

/-- What the reference computes of the product's integer and the two scales. -/
def value (n : ℤ) (a b : EReal) : EReal := max (((n : ℝ) : EReal) * (a * b)) (Ideal.ofBits .f32 0x00000000#32)

/-- A scale's one element. -/
def first (v : S1.Idx → EReal) : EReal := v (ix1 0)

/-- A device's result at an index: its sum times the two scales' product, negatives cut off. -/
theorem OUT_apply (X : Dev nD → (cc0_stg0_0 : Ref sig .tc).ty.Contents (Elt Ideal)) (Y : Dev nD → (cc0_stg1_0 : Ref sig .tc).ty.Contents (Elt Ideal))
    (A : Dev nD → (cc0_stg2_0 : Ref sig .tc).ty.Contents (Elt Ideal)) (B : Dev nD → (cc0_stg3_0 : Ref sig .tc).ty.Contents (Elt Ideal))
    (c : Dev nD) (i : S256x8192.Idx) :
    OUT X Y (scl A B) c i = value (∑ d, share X Y (rowIx c (i 0)) (i 1) d) (first (A c)) (first (B c)) := by
  obtain ⟨⟨ρ, j⟩, x, rfl⟩ := col_cover i
  have er : rowIx c (((colRect ρ j).emb x) 0) = rowIx c (x 0) := Fin.ext (by
    show 256 * c.val + (0 + 1 * (x 0).val) = 256 * c.val + (x 0).val; omega)
  have ec : ((colRect ρ j).emb x) 1 = colIx ρ j (x 1) := Fin.ext (by
    show col ρ j + 1 * (x 1).val = col ρ j + (x 1).val; omega)
  have ei : ∀ (h : 0 < S1.numel), (Rect.unit (s := S1) ![0] S1.size inb_S1_S1_0).emb (Shape.Idx.first h) = (ix1 0 : S1.Idx) := fun h => by
    funext a; apply Fin.ext
    match a with
    | ⟨0, _⟩ => exact Nat.lt_one_iff.1 (Fin.isLt _)
  have es : scl A B c = first (A c) * first (B c) := by
    show HMul.hMul (α := EReal) (β := EReal) (A c ((Rect.unit (s := S1) ![0] S1.size inb_S1_S1_0).emb (Shape.Idx.first _)))
      (B c ((Rect.unit (s := S1) ![0] S1.size inb_S1_S1_0).emb (Shape.Idx.first _))) = _
    rw [ei]; rfl
  rw [er, ec, OUT_at, ← sumAt_last (F := Ideal)]
  show max (HMul.hMul (α := EReal) (β := EReal) (((sumAt X Y ρ j 15 c x).toInt : ℝ) : EReal) (scl A B c)) _ = _
  rw [es]; rfl
end

/-- The reference's result at an index. -/
theorem ref_apply (A : IVec Cert.ReferenceIdeal.S4096x4096 8) (B : IVec Cert.ReferenceIdeal.S4096x8192 8)
    (a b : FVec Ideal Cert.ReferenceIdeal.S1 .f32) (h : 8 < 32)
    (h₁ : Cert.ReferenceIdeal.S1.BroadcastsInDim Cert.ReferenceIdeal.S1x1 (![1] : Fin 1 → Fin Cert.ReferenceIdeal.S1x1.rank))
    (h₂ : Cert.ReferenceIdeal.S1x1.BroadcastsInDim Cert.ReferenceIdeal.S4096x8192 (![0, 1] : Fin 2 → Fin Cert.ReferenceIdeal.S4096x8192.rank))
    (h₃ : Cert.ReferenceIdeal.S_.BroadcastsInDim Cert.ReferenceIdeal.S4096x8192 (![] : Fin 0 → Fin Cert.ReferenceIdeal.S4096x8192.rank))
    (i : Cert.ReferenceIdeal.S4096x8192.Idx) :
    maximumf (F := Ideal) (mulf (Host.dotGeneral (φ₁ := .f32) (φ₂ := .f32) Cert.ReferenceIdeal.dot_S4096x4096_S4096x8192_S4096x8192_1_0_0_1_n_n none (sitofp .f32 (extsi 32 A h))
          (sitofp .f32 (extsi 32 B h)))
        (broadcastInDim Cert.ReferenceIdeal.S4096x8192 ![0, 1] h₂ (broadcastInDim Cert.ReferenceIdeal.S1x1 ![1] h₁ (mulf a b))))
      (broadcastInDim Cert.ReferenceIdeal.S4096x8192 ![] h₃ (constant Cert.ReferenceIdeal.S_ .f32 0x00000000#32)) i
      = value (whole A B (i 0) (i 1)) (first a) (first b) := by
  have e := dot_whole A B h i
  have e1 : ∀ k : Cert.ReferenceIdeal.S1.Idx, k = ix1 0 := fun k => by
    funext a; apply Fin.ext
    match a with
    | ⟨0, _⟩ => exact Nat.lt_one_iff.1 (k 0).isLt
  show max (HMul.hMul (α := EReal) (β := EReal) (Host.dotGeneral (F := Ideal) (φ₁ := .f32) (φ₂ := .f32) Cert.ReferenceIdeal.dot_S4096x4096_S4096x8192_S4096x8192_1_0_0_1_n_n none (sitofp .f32 (extsi 32 A h))
        (sitofp .f32 (extsi 32 B h)) i) (broadcastInDim Cert.ReferenceIdeal.S4096x8192 ![0, 1] h₂ (broadcastInDim Cert.ReferenceIdeal.S1x1 ![1] h₁ (mulf a b)) i)) _ = _
  rw [e]
  exact congrArg (fun k => max (HMul.hMul (α := EReal) (β := EReal) (((whole A B (i 0) (i 1) : ℤ) : ℝ) : EReal) (HMul.hMul (α := EReal) (β := EReal) (a k) (b k)))
    (Ideal.ofBits .f32 0x00000000#32)) (e1 _)

/-- From memories that agree, the idealized kernel's device `c` ends with block `c` of the reference's result. -/
theorem equal : algebraic_KernelIdeal_ReferenceIdeal := fun m g m' g' _ hin => by
  refine ⟨_, (run (F := Ideal) m g).mono fun r h c => ⟨(h.1 c).1.trans ?_, (h.1 c).2⟩,
    (Cert.ReferenceIdeal.Value.run (F := Ideal) m' g').mono fun r h => ⟨(h 0).1, (h 0).2⟩⟩
  rw [finalA_out]
  unfold res
  rw [funext (xin_eq m), funext (win_eq m), funext (ain_eq m), funext (bin_eq m)]
  rw [funext fun c => (hin c).1, funext fun c => (hin c).2.1, funext fun c => (hin c).2.2.1, funext fun c => (hin c).2.2.2]
  funext i
  rw [OUT_apply, Layout.block_apply]
  refine Eq.trans ?_ (ref_apply _ _ _ _ _ _ _ _ _).symm
  have er : (Layout.Tiles.idx (S := ⟨2, ![256, 8192]⟩) (T := ⟨2, ![4096, 8192]⟩) (a := 0) (k := 16) (by decide) c i) 0 = rowIx c (i 0) :=
    Fin.ext (by show c.val * 256 + (i 0).val = 256 * c.val + (i 0).val; omega)
  refine (congrArg (fun n => value n _ _) (whole_split (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (rowIx c (i 0)) (i 1))).trans ?_
  exact congrArg (fun r => value (whole _ _ r (i 1)) _ _) er.symm

end Cert.KernelIdeal.Own
-- ==== Proof.lean ====
/- The certificate's proof: the frames of the kernel, its idealization and the reference, and the results' equality. -/
module

public import proofs.«01_k».proof.Defs
public import proofs.«01_k».proof.Proof.Runs
public import proofs.«01_k».proof.Proof.Equal
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference's frame: its run leaves the arguments unchanged, and it declares no counter. -/
theorem frameReference : Cert.quiescent_ReferenceIdeal := fun m g _ =>
  (Cert.ReferenceIdeal.Value.run (F := Ideal) m g).mono fun r h =>
    ⟨fun c => (h c).2, sem_eq_zero_of_no_sems (by decide) r⟩

/-- Everything the certificate claims. -/
theorem claim : Cert.Claim := ⟨Cert.Kernel.Gen.facts, Cert.KernelIdeal.Gen.facts, Cert.ReferenceIdeal.Gen.facts,
  Cert.KernelIdeal.Own.frameKernel, Cert.KernelIdeal.Own.frameIdeal, frameReference, trivial, Cert.KernelIdeal.Own.equal⟩

end Cert.Proof

end
